-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S512x64 : Shape := ⟨2, ![512, 64]⟩
abbrev S64x32x256 : Shape := ⟨3, ![64, 32, 256]⟩
abbrev S32x32x1024 : Shape := ⟨3, ![32, 32, 1024]⟩
abbrev S16x32x1024 : Shape := ⟨3, ![16, 32, 1024]⟩
abbrev S8x32x1024 : Shape := ⟨3, ![8, 32, 1024]⟩
abbrev S4x32x1024 : Shape := ⟨3, ![4, 32, 1024]⟩
abbrev S2x32x1024 : Shape := ⟨3, ![2, 32, 1024]⟩
abbrev S1x32x1024 : Shape := ⟨3, ![1, 32, 1024]⟩
abbrev S32 : Shape := ⟨1, ![32]⟩
abbrev S_ : Shape := ⟨0, ![]⟩

class Facts : Prop where
  bcast_S_S64x32x256 : S_.BroadcastsInDim S64x32x256 (![] : Fin 0 → Fin S64x32x256.rank)
  reducesTo_S64x32x256_S_d0_1_2 : S64x32x256.ReducesTo [0, 1, 2] S_
  h_S_ : 0 < S_.numel
  bcast_S_S32 : S_.BroadcastsInDim S32 (![] : Fin 0 → Fin S32.rank)
  reducesTo_S32_S_d0 : S32.ReducesTo [0] S_
  bcast_S_S32x32x1024 : S_.BroadcastsInDim S32x32x1024 (![] : Fin 0 → Fin S32x32x1024.rank)
  reducesTo_S32x32x1024_S_d0_1_2 : S32x32x1024.ReducesTo [0, 1, 2] S_
  bcast_S_S16x32x1024 : S_.BroadcastsInDim S16x32x1024 (![] : Fin 0 → Fin S16x32x1024.rank)
  reducesTo_S16x32x1024_S_d0_1_2 : S16x32x1024.ReducesTo [0, 1, 2] S_
  bcast_S_S8x32x1024 : S_.BroadcastsInDim S8x32x1024 (![] : Fin 0 → Fin S8x32x1024.rank)
  reducesTo_S8x32x1024_S_d0_1_2 : S8x32x1024.ReducesTo [0, 1, 2] S_
  bcast_S_S4x32x1024 : S_.BroadcastsInDim S4x32x1024 (![] : Fin 0 → Fin S4x32x1024.rank)
  reducesTo_S4x32x1024_S_d0_1_2 : S4x32x1024.ReducesTo [0, 1, 2] S_
  bcast_S_S2x32x1024 : S_.BroadcastsInDim S2x32x1024 (![] : Fin 0 → Fin S2x32x1024.rank)
  reducesTo_S2x32x1024_S_d0_1_2 : S2x32x1024.ReducesTo [0, 1, 2] S_
  bcast_S_S1x32x1024 : S_.BroadcastsInDim S1x32x1024 (![] : Fin 0 → Fin S1x32x1024.rank)
  reducesTo_S1x32x1024_S_d0_1_2 : S1x32x1024.ReducesTo [0, 1, 2] S_
  bcast_S_S512x64 : S_.BroadcastsInDim S512x64 (![] : Fin 0 → Fin S512x64.rank)
  reducesTo_S512x64_S_d0_1 : S512x64.ReducesTo [0, 1] S_

variable [Facts]

def fn_part2 {F : FTy → Type} [FloatOps F] (main_arg0 : IVec S512x64 32) (main_arg7 : FVec F S1x32x1024 .f32) (main_v33 : IVec S_ 1) : IVec S_ 1 :=
  let main_v34 : FVec F S1x32x1024 .f32 := Host.absf main_arg7
  let main_cst_12 : FVec F S_ .f32 := constant S_ .f32 0x7F800000#32
  let main_v35 : FVec F S1x32x1024 .f32 := broadcastInDim S1x32x1024 ![] bcast_S_S1x32x1024 main_cst_12
  let main_v36 : IVec S1x32x1024 1 := cmpf .olt main_v34 main_v35
  let main_c_13 : IVec S_ 1 := constantI S_ 1 1#1
  let main_v37 : IVec S_ 1 := (fun x v => Host.reduce IntOp.andi x v reducesTo_S1x32x1024_S_d0_1_2 h_S_) main_v36 main_c_13
  let main_v38 : IVec S_ 1 := andi main_v33 main_v37
  let main_c_14 : IVec S_ 32 := constantI S_ 32 0#32
  let main_v39 : IVec S512x64 32 := broadcastInDim S512x64 ![] bcast_S_S512x64 main_c_14
  let main_v40 : IVec S512x64 1 := cmpi .sge main_arg0 main_v39
  let main_c_15 : IVec S_ 32 := constantI S_ 32 256#32
  let main_v41 : IVec S512x64 32 := broadcastInDim S512x64 ![] bcast_S_S512x64 main_c_15
  let main_v42 : IVec S512x64 1 := cmpi .slt main_arg0 main_v41
  let main_v43 : IVec S512x64 1 := andi main_v40 main_v42
  let main_c_16 : IVec S_ 1 := constantI S_ 1 1#1
  let main_v44 : IVec S_ 1 := (fun x v => Host.reduce IntOp.andi x v reducesTo_S512x64_S_d0_1 h_S_) main_v43 main_c_16
  let main_v45 : IVec S_ 1 := andi main_v38 main_v44
  main_v45

def fn_part1 {F : FTy → Type} [FloatOps F] (main_arg0 : IVec S512x64 32) (main_arg4 : FVec F S8x32x1024 .f32) (main_arg5 : FVec F S4x32x1024 .f32) (main_arg6 : FVec F S2x32x1024 .f32) (main_arg7 : FVec F S1x32x1024 .f32) (main_v13 : IVec S_ 1) (main_v16 : IVec S16x32x1024 1) : IVec S_ 1 :=
  let main_c_5 : IVec S_ 1 := constantI S_ 1 1#1
  let main_v17 : IVec S_ 1 := (fun x v => Host.reduce IntOp.andi x v reducesTo_S16x32x1024_S_d0_1_2 h_S_) main_v16 main_c_5
  let main_v18 : IVec S_ 1 := andi main_v13 main_v17
  let main_v19 : FVec F S8x32x1024 .f32 := Host.absf main_arg4
  let main_cst_6 : FVec F S_ .f32 := constant S_ .f32 0x7F800000#32
  let main_v20 : FVec F S8x32x1024 .f32 := broadcastInDim S8x32x1024 ![] bcast_S_S8x32x1024 main_cst_6
  let main_v21 : IVec S8x32x1024 1 := cmpf .olt main_v19 main_v20
  let main_c_7 : IVec S_ 1 := constantI S_ 1 1#1
  let main_v22 : IVec S_ 1 := (fun x v => Host.reduce IntOp.andi x v reducesTo_S8x32x1024_S_d0_1_2 h_S_) main_v21 main_c_7
  let main_v23 : IVec S_ 1 := andi main_v18 main_v22
  let main_v24 : FVec F S4x32x1024 .f32 := Host.absf main_arg5
  let main_cst_8 : FVec F S_ .f32 := constant S_ .f32 0x7F800000#32
  let main_v25 : FVec F S4x32x1024 .f32 := broadcastInDim S4x32x1024 ![] bcast_S_S4x32x1024 main_cst_8
  let main_v26 : IVec S4x32x1024 1 := cmpf .olt main_v24 main_v25
  let main_c_9 : IVec S_ 1 := constantI S_ 1 1#1
  let main_v27 : IVec S_ 1 := (fun x v => Host.reduce IntOp.andi x v reducesTo_S4x32x1024_S_d0_1_2 h_S_) main_v26 main_c_9
  let main_v28 : IVec S_ 1 := andi main_v23 main_v27
  let main_v29 : FVec F S2x32x1024 .f32 := Host.absf main_arg6
  let main_cst_10 : FVec F S_ .f32 := constant S_ .f32 0x7F800000#32
  let main_v30 : FVec F S2x32x1024 .f32 := broadcastInDim S2x32x1024 ![] bcast_S_S2x32x1024 main_cst_10
  let main_v31 : IVec S2x32x1024 1 := cmpf .olt main_v29 main_v30
  let main_c_11 : IVec S_ 1 := constantI S_ 1 1#1
  let main_v32 : IVec S_ 1 := (fun x v => Host.reduce IntOp.andi x v reducesTo_S2x32x1024_S_d0_1_2 h_S_) main_v31 main_c_11
  let main_v33 : IVec S_ 1 := andi main_v28 main_v32
  fn_part2 (F := F) main_arg0 main_arg7 main_v33

def fn {F : FTy → Type} [FloatOps F] (main_arg0 : IVec S512x64 32) (main_arg1 : FVec F S64x32x256 .f32) (main_arg2 : FVec F S32x32x1024 .f32) (main_arg3 : FVec F S16x32x1024 .f32) (main_arg4 : FVec F S8x32x1024 .f32) (main_arg5 : FVec F S4x32x1024 .f32) (main_arg6 : FVec F S2x32x1024 .f32) (main_arg7 : FVec F S1x32x1024 .f32) (main_arg8 : FVec F S32 .f32) : IVec S_ 1 :=
  let main_v0 : FVec F S64x32x256 .f32 := Host.absf main_arg1
  let main_cst : FVec F S_ .f32 := constant S_ .f32 0x7F800000#32
  let main_v1 : FVec F S64x32x256 .f32 := broadcastInDim S64x32x256 ![] bcast_S_S64x32x256 main_cst
  let main_v2 : IVec S64x32x256 1 := cmpf .olt main_v0 main_v1
  let main_c : IVec S_ 1 := constantI S_ 1 1#1
  let main_v3 : IVec S_ 1 := (fun x v => Host.reduce IntOp.andi x v reducesTo_S64x32x256_S_d0_1_2 h_S_) main_v2 main_c
  let main_v4 : FVec F S32 .f32 := Host.absf main_arg8
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32x32x1024 .f32 := Host.absf main_arg2
  let main_cst_2 : FVec F S_ .f32 := constant S_ .f32 0x7F800000#32
  let main_v10 : FVec F S32x32x1024 .f32 := broadcastInDim S32x32x1024 ![] bcast_S_S32x32x1024 main_cst_2
  let main_v11 : IVec S32x32x1024 1 := cmpf .olt main_v9 main_v10
  let main_c_3 : IVec S_ 1 := constantI S_ 1 1#1
  let main_v12 : IVec S_ 1 := (fun x v => Host.reduce IntOp.andi x v reducesTo_S32x32x1024_S_d0_1_2 h_S_) main_v11 main_c_3
  let main_v13 : IVec S_ 1 := andi main_v8 main_v12
  let main_v14 : FVec F S16x32x1024 .f32 := Host.absf main_arg3
  let main_cst_4 : FVec F S_ .f32 := constant S_ .f32 0x7F800000#32
  let main_v15 : FVec F S16x32x1024 .f32 := broadcastInDim S16x32x1024 ![] bcast_S_S16x32x1024 main_cst_4
  let main_v16 : IVec S16x32x1024 1 := cmpf .olt main_v14 main_v15
  fn_part1 (F := F) main_arg0 main_arg4 main_arg5 main_arg6 main_arg7 main_v13 main_v16
-- ==== Kernel.lean ====
abbrev S512x64 : Shape := ⟨2, ![512, 64]⟩
abbrev S64x32x256 : Shape := ⟨3, ![64, 32, 256]⟩
abbrev S32x32x1024 : Shape := ⟨3, ![32, 32, 1024]⟩
abbrev S16x32x1024 : Shape := ⟨3, ![16, 32, 1024]⟩
abbrev S8x32x1024 : Shape := ⟨3, ![8, 32, 1024]⟩
abbrev S4x32x1024 : Shape := ⟨3, ![4, 32, 1024]⟩
abbrev S2x32x1024 : Shape := ⟨3, ![2, 32, 1024]⟩
abbrev S1x32x1024 : Shape := ⟨3, ![1, 32, 1024]⟩
abbrev S32 : Shape := ⟨1, ![32]⟩
abbrev S64x512 : Shape := ⟨2, ![64, 512]⟩
abbrev S32x1 : Shape := ⟨2, ![32, 1]⟩
abbrev S1x512 : Shape := ⟨2, ![1, 512]⟩
abbrev S6 : Shape := ⟨1, ![6]⟩
abbrev S1 : Shape := ⟨1, ![1]⟩
abbrev S_ : Shape := ⟨0, ![]⟩
abbrev S256x512 : Shape := ⟨2, ![256, 512]⟩
abbrev S1x32x256 : Shape := ⟨3, ![1, 32, 256]⟩
abbrev S32x256 : Shape := ⟨2, ![32, 256]⟩
abbrev S32x512 : Shape := ⟨2, ![32, 512]⟩
abbrev S32x1x512 : Shape := ⟨3, ![32, 1, 512]⟩
abbrev S1x32x512 : Shape := ⟨3, ![1, 32, 512]⟩
abbrev S32x32x512 : Shape := ⟨3, ![32, 32, 512]⟩
abbrev S1024x512 : Shape := ⟨2, ![1024, 512]⟩
abbrev S32x1024 : Shape := ⟨2, ![32, 1024]⟩
abbrev S512 : Shape := ⟨1, ![512]⟩
abbrev S1x32x1 : Shape := ⟨3, ![1, 32, 1]⟩
abbrev S1x1x1 : Shape := ⟨3, ![1, 1, 1]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S512x64, .i32⟩
  | .hbm, ⟨1, _⟩ => ⟨S64x32x256, .f32⟩
  | .hbm, ⟨2, _⟩ => ⟨S32x32x1024, .f32⟩
  | .hbm, ⟨3, _⟩ => ⟨S16x32x1024, .f32⟩
  | .hbm, ⟨4, _⟩ => ⟨S8x32x1024, .f32⟩
  | .hbm, ⟨5, _⟩ => ⟨S4x32x1024, .f32⟩
  | .hbm, ⟨6, _⟩ => ⟨S2x32x1024, .f32⟩
  | .hbm, ⟨7, _⟩ => ⟨S1x32x1024, .f32⟩
  | .hbm, ⟨8, _⟩ => ⟨S32, .f32⟩
  | .hbm, ⟨9, _⟩ => ⟨S64x512, .i32⟩
  | .hbm, ⟨10, _⟩ => ⟨S32x1, .f32⟩
  | .hbm, ⟨11, _⟩ => ⟨S1x512, .f32⟩
  | .hbm, ⟨12, _⟩ => ⟨S512x1, .f32⟩
  | .local _ .vmem, ⟨0, _⟩ => ⟨S64x512, .i32⟩
  | .local _ .vmem, ⟨1, _⟩ => ⟨S64x32x256, .f32⟩
  | .local _ .vmem, ⟨2, _⟩ => ⟨S32x1, .f32⟩
  | .local _ .vmem, ⟨3, _⟩ => ⟨S1x512, .f32⟩
  | .local _ .vmem, ⟨4, _⟩ => ⟨S32x32x1024, .f32⟩
  | .local _ .vmem, ⟨5, _⟩ => ⟨S16x32x1024, .f32⟩
  | .local _ .vmem, ⟨6, _⟩ => ⟨S8x32x1024, .f32⟩
  | .local _ .vmem, ⟨7, _⟩ => ⟨S4x32x1024, .f32⟩
  | .local _ .vmem, ⟨8, _⟩ => ⟨S2x32x1024, .f32⟩
  | .local _ .vmem, ⟨9, _⟩ => ⟨S1x32x1024, .f32⟩
  | _, _ => ⟨S512x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x64 : Shape := ⟨2, ![512, 64]⟩
abbrev S64x32x256 : Shape := ⟨3, ![64, 32, 256]⟩
abbrev S32x32x1024 : Shape := ⟨3, ![32, 32, 1024]⟩
abbrev S16x32x1024 : Shape := ⟨3, ![16, 32, 1024]⟩
abbrev S8x32x1024 : Shape := ⟨3, ![8, 32, 1024]⟩
abbrev S4x32x1024 : Shape := ⟨3, ![4, 32, 1024]⟩
abbrev S2x32x1024 : Shape := ⟨3, ![2, 32, 1024]⟩
abbrev S1x32x1024 : Shape := ⟨3, ![1, 32, 1024]⟩
abbrev S32 : Shape := ⟨1, ![32]⟩
abbrev S_ : Shape := ⟨0, ![]⟩
abbrev S64x32 : Shape := ⟨2, ![64, 32]⟩
abbrev S64x32x1 : Shape := ⟨3, ![64, 32, 1]⟩
abbrev S64x512 : Shape := ⟨2, ![64, 512]⟩
abbrev S64x1x512 : Shape := ⟨3, ![64, 1, 512]⟩
abbrev S64x32x512 : Shape := ⟨3, ![64, 32, 512]⟩
abbrev S64x32x512x1 : Shape := ⟨4, ![64, 32, 512, 1]⟩
abbrev S1 : Shape := ⟨1, ![1]⟩
abbrev S1x1x1x1 : Shape := ⟨4, ![1, 1, 1, 1]⟩
abbrev S32x32x512 : Shape := ⟨3, ![32, 32, 512]⟩
abbrev S32x32x1x512 : Shape := ⟨4, ![32, 32, 1, 512]⟩
abbrev S32x1x32x512 : Shape := ⟨4, ![32, 1, 32, 512]⟩
abbrev S32x32x32x512 : Shape := ⟨4, ![32, 32, 32, 512]⟩
abbrev S32x1024x512 : Shape := ⟨3, ![32, 1024, 512]⟩
abbrev S32x512 : Shape := ⟨2, ![32, 512]⟩
abbrev S32x1x512 : Shape := ⟨3, ![32, 1, 512]⟩
abbrev S32x32 : Shape := ⟨2, ![32, 32]⟩
abbrev S32x32x1 : Shape := ⟨3, ![32, 32, 1]⟩
abbrev S16x32x512 : Shape := ⟨3, ![16, 32, 512]⟩
abbrev S16x32x1x512 : Shape := ⟨4, ![16, 32, 1, 512]⟩
abbrev S16x1x32x512 : Shape := ⟨4, ![16, 1, 32, 512]⟩
abbrev S16x32x32x512 : Shape := ⟨4, ![16, 32, 32, 512]⟩
abbrev S16x1024x512 : Shape := ⟨3, ![16, 1024, 512]⟩
abbrev S16x512 : Shape := ⟨2, ![16, 512]⟩
abbrev S16x1x512 : Shape := ⟨3, ![16, 1, 512]⟩
abbrev S16x32 : Shape := ⟨2, ![16, 32]⟩
abbrev S16x32x1 : Shape := ⟨3, ![16, 32, 1]⟩
abbrev S8x32x512 : Shape := ⟨3, ![8, 32, 512]⟩
abbrev S8x32x1x512 : Shape := ⟨4, ![8, 32, 1, 512]⟩
abbrev S8x1x32x512 : Shape := ⟨4, ![8, 1, 32, 512]⟩
abbrev S8x32x32x512 : Shape := ⟨4, ![8, 32, 32, 512]⟩
abbrev S8x1024x512 : Shape := ⟨3, ![8, 1024, 512]⟩
abbrev S8x512 : Shape := ⟨2, ![8, 512]⟩
abbrev S8x1x512 : Shape := ⟨3, ![8, 1, 512]⟩
abbrev S8x32 : Shape := ⟨2, ![8, 32]⟩
abbrev S8x32x1 : Shape := ⟨3, ![8, 32, 1]⟩
abbrev S4x32x512 : Shape := ⟨3, ![4, 32, 512]⟩
abbrev S4x32x1x512 : Shape := ⟨4, ![4, 32, 1, 512]⟩
abbrev S4x1x32x512 : Shape := ⟨4, ![4, 1, 32, 512]⟩
abbrev S4x32x32x512 : Shape := ⟨4, ![4, 32, 32, 512]⟩
abbrev S4x1024x512 : Shape := ⟨3, ![4, 1024, 512]⟩
abbrev S4x512 : Shape := ⟨2, ![4, 512]⟩
abbrev S4x1x512 : Shape := ⟨3, ![4, 1, 512]⟩
abbrev S4x32 : Shape := ⟨2, ![4, 32]⟩
abbrev S4x32x1 : Shape := ⟨3, ![4, 32, 1]⟩
abbrev S2x32x512 : Shape := ⟨3, ![2, 32, 512]⟩
abbrev S2x32x1x512 : Shape := ⟨4, ![2, 32, 1, 512]⟩
abbrev S2x1x32x512 : Shape := ⟨4, ![2, 1, 32, 512]⟩
abbrev S2x32x32x512 : Shape := ⟨4, ![2, 32, 32, 512]⟩
abbrev S2x1024x512 : Shape := ⟨3, ![2, 1024, 512]⟩
abbrev S2x512 : Shape := ⟨2, ![2, 512]⟩
abbrev S2x1x512 : Shape := ⟨3, ![2, 1, 512]⟩
abbrev S2x32 : Shape := ⟨2, ![2, 32]⟩
abbrev S2x32x1 : Shape := ⟨3, ![2, 32, 1]⟩
abbrev S1x32x512 : Shape := ⟨3, ![1, 32, 512]⟩
abbrev S1x32x1x512 : Shape := ⟨4, ![1, 32, 1, 512]⟩
abbrev S1x1x32x512 : Shape := ⟨4, ![1, 1, 32, 512]⟩
abbrev S1x32x32x512 : Shape := ⟨4, ![1, 32, 32, 512]⟩
abbrev S1x1024x512 : Shape := ⟨3, ![1, 1024, 512]⟩
abbrev S1x512 : Shape := ⟨2, ![1, 512]⟩
abbrev S1x1x512 : Shape := ⟨3, ![1, 1, 512]⟩
abbrev S1x32 : Shape := ⟨2, ![1, 32]⟩
abbrev S1x32x1 : Shape := ⟨3, ![1, 32, 1]⟩
abbrev S32x1 : Shape := ⟨2, ![32, 1]⟩
abbrev S512 : Shape := ⟨1, ![512]⟩
abbrev S512x1 : Shape := ⟨2, ![512, 1]⟩

abbrev nBuf : Space → Nat
  | .hbm => 270
  | .vmem => 0
  | .smem => 0
  | _ => 0

abbrev hbmTy0_0 (i : Nat) : BufTy := match i % 128 with
  | 0 => ⟨S512x64, .i32⟩
  | 1 => ⟨S64x32x256, .f32⟩
  | 2 => ⟨S32x32x1024, .f32⟩
  | 3 => ⟨S16x32x1024, .f32⟩
  | 4 => ⟨S8x32x1024, .f32⟩
  | 5 => ⟨S4x32x1024, .f32⟩
  | 6 => ⟨S2x32x1024, .f32⟩
  | 7 => ⟨S1x32x1024, .f32⟩
  | 8 => ⟨S32, .f32⟩
  | 9 => ⟨S_, .f32⟩
  | 10 => ⟨S64x32, .f32⟩
  | 11 => ⟨S_, .f32⟩
  | 12 => ⟨S64x32, .f32⟩
  | 13 => ⟨S64x32, .f32⟩
  | 14 => ⟨S64x32x1, .f32⟩
  | 15 => ⟨S64x32x256, .f32⟩
  | 16 => ⟨S64x32x256, .f32⟩
  | 17 => ⟨S64x32x256, .f32⟩
  | 18 => ⟨S_, .f32⟩
  | 19 => ⟨S64x32, .f32⟩
  | 20 => ⟨S64x32x1, .f32⟩
  | 21 => ⟨S64x32x1, .f32⟩
  | 22 => ⟨S64x32x256, .f32⟩
  | 23 => ⟨S64x32x256, .f32⟩
  | 24 => ⟨S64x512, .i32⟩
  | 25 => ⟨S64x1x512, .i32⟩
  | 26 => ⟨S64x32x512, .i32⟩
  | 27 => ⟨S_, .i32⟩
  | 28 => ⟨S64x32x512, .i32⟩
  | 29 => ⟨S64x32x512, .i1⟩
  | 30 => ⟨S_, .i32⟩
  | 31 => ⟨S64x32x512, .i32⟩
  | 32 => ⟨S64x32x512, .i32⟩
  | 33 => ⟨S64x32x512, .i32⟩
  | 34 => ⟨S64x32x512x1, .i32⟩
  | 35 => ⟨S1, .i32⟩
  | 36 => ⟨S_, .i32⟩
  | 37 => ⟨S64x32x512x1, .i32⟩
  | 38 => ⟨S64x32x512x1, .i1⟩
  | 39 => ⟨S1x1x1x1, .i32⟩
  | 40 => ⟨S64x32x512x1, .i32⟩
  | 41 => ⟨S64x32x512x1, .i1⟩
  | 42 => ⟨S64x32x512x1, .i1⟩
  | 43 => ⟨S_, .i1⟩
  | 44 => ⟨S64x32x512, .i1⟩
  | 45 => ⟨S64x32x512, .f32⟩
  | 46 => ⟨S_, .f32⟩
  | 47 => ⟨S64x32x512, .f32⟩
  | 48 => ⟨S64x32x512, .f32⟩
  | 49 => ⟨S32x32x512, .f32⟩
  | 50 => ⟨S32x32x512, .f32⟩
  | 51 => ⟨S32x32x1x512, .f32⟩
  | 52 => ⟨S32x1x32x512, .f32⟩
  | 53 => ⟨S32x32x32x512, .f32⟩
  | 54 => ⟨S32x32x32x512, .f32⟩
  | 55 => ⟨S32x32x32x512, .f32⟩
  | 56 => ⟨S32x1024x512, .f32⟩
  | 57 => ⟨S_, .f32⟩
  | 58 => ⟨S32x512, .f32⟩
  | 59 => ⟨S32x1x512, .f32⟩
  | 60 => ⟨S_, .f32⟩
  | 61 => ⟨S32x32, .f32⟩
  | 62 => ⟨S_, .f32⟩
  | 63 => ⟨S32x32, .f32⟩
  | 64 => ⟨S32x32, .f32⟩
  | 65 => ⟨S32x32x1, .f32⟩
  | 66 => ⟨S32x32x1024, .f32⟩
  | 67 => ⟨S32x32x1024, .f32⟩
  | 68 => ⟨S32x32x1024, .f32⟩
  | 69 => ⟨S_, .f32⟩
  | 70 => ⟨S32x32, .f32⟩
  | 71 => ⟨S32x32x1, .f32⟩
  | 72 => ⟨S32x32x1024, .f32⟩
  | 73 => ⟨S32x32x1024, .f32⟩
  | 74 => ⟨S32x1024x512, .f32⟩
  | 75 => ⟨S32x1024x512, .f32⟩
  | 76 => ⟨S32x1024x512, .f32⟩
  | 77 => ⟨S32x32x512, .f32⟩
  | 78 => ⟨S32x32x512, .f32⟩
  | 79 => ⟨S32x32x512, .f32⟩
  | 80 => ⟨S32x32x512, .f32⟩
  | 81 => ⟨S16x32x512, .f32⟩
  | 82 => ⟨S16x32x512, .f32⟩
  | 83 => ⟨S16x32x1x512, .f32⟩
  | 84 => ⟨S16x1x32x512, .f32⟩
  | 85 => ⟨S16x32x32x512, .f32⟩
  | 86 => ⟨S16x32x32x512, .f32⟩
  | 87 => ⟨S16x32x32x512, .f32⟩
  | 88 => ⟨S16x1024x512, .f32⟩
  | 89 => ⟨S_, .f32⟩
  | 90 => ⟨S16x512, .f32⟩
  | 91 => ⟨S16x1x512, .f32⟩
  | 92 => ⟨S_, .f32⟩
  | 93 => ⟨S16x32, .f32⟩
  | 94 => ⟨S_, .f32⟩
  | 95 => ⟨S16x32, .f32⟩
  | 96 => ⟨S16x32, .f32⟩
  | 97 => ⟨S16x32x1, .f32⟩
  | 98 => ⟨S16x32x1024, .f32⟩
  | 99 => ⟨S16x32x1024, .f32⟩
  | 100 => ⟨S16x32x1024, .f32⟩
  | 101 => ⟨S_, .f32⟩
  | 102 => ⟨S16x32, .f32⟩
  | 103 => ⟨S16x32x1, .f32⟩
  | 104 => ⟨S16x32x1024, .f32⟩
  | 105 => ⟨S16x32x1024, .f32⟩
  | 106 => ⟨S16x1024x512, .f32⟩
  | 107 => ⟨S16x1024x512, .f32⟩
  | 108 => ⟨S16x1024x512, .f32⟩
  | 109 => ⟨S16x32x512, .f32⟩
  | 110 => ⟨S16x32x512, .f32⟩
  | 111 => ⟨S16x32x512, .f32⟩
  | 112 => ⟨S16x32x512, .f32⟩
  | 113 => ⟨S8x32x512, .f32⟩
  | 114 => ⟨S8x32x512, .f32⟩
  | 115 => ⟨S8x32x1x512, .f32⟩
  | 116 => ⟨S8x1x32x512, .f32⟩
  | 117 => ⟨S8x32x32x512, .f32⟩
  | 118 => ⟨S8x32x32x512, .f32⟩
  | 119 => ⟨S8x32x32x512, .f32⟩
  | 120 => ⟨S8x1024x512, .f32⟩
  | 121 => ⟨S_, .f32⟩
  | 122 => ⟨S8x512, .f32⟩
  | 123 => ⟨S8x1x512, .f32⟩
  | 124 => ⟨S_, .f32⟩
  | 125 => ⟨S8x32, .f32⟩
  | 126 => ⟨S_, .f32⟩
  | 127 => ⟨S8x32, .f32⟩
  | _ => ⟨S512x64, .i32⟩

abbrev hbmTy0_1 (i : Nat) : BufTy := match i % 128 with
  | 0 => ⟨S8x32, .f32⟩
  | 1 => ⟨S8x32x1, .f32⟩
  | 2 => ⟨S8x32x1024, .f32⟩
  | 3 => ⟨S8x32x1024, .f32⟩
  | 4 => ⟨S8x32x1024, .f32⟩
  | 5 => ⟨S_, .f32⟩
  | 6 => ⟨S8x32, .f32⟩
  | 7 => ⟨S8x32x1, .f32⟩
  | 8 => ⟨S8x32x1024, .f32⟩
  | 9 => ⟨S8x32x1024, .f32⟩
  | 10 => ⟨S8x1024x512, .f32⟩
  | 11 => ⟨S8x1024x512, .f32⟩
  | 12 => ⟨S8x1024x512, .f32⟩
  | 13 => ⟨S8x32x512, .f32⟩
  | 14 => ⟨S8x32x512, .f32⟩
  | 15 => ⟨S8x32x512, .f32⟩
  | 16 => ⟨S8x32x512, .f32⟩
  | 17 => ⟨S4x32x512, .f32⟩
  | 18 => ⟨S4x32x512, .f32⟩
  | 19 => ⟨S4x32x1x512, .f32⟩
  | 20 => ⟨S4x1x32x512, .f32⟩
  | 21 => ⟨S4x32x32x512, .f32⟩
  | 22 => ⟨S4x32x32x512, .f32⟩
  | 23 => ⟨S4x32x32x512, .f32⟩
  | 24 => ⟨S4x1024x512, .f32⟩
  | 25 => ⟨S_, .f32⟩
  | 26 => ⟨S4x512, .f32⟩
  | 27 => ⟨S4x1x512, .f32⟩
  | 28 => ⟨S_, .f32⟩
  | 29 => ⟨S4x32, .f32⟩
  | 30 => ⟨S_, .f32⟩
  | 31 => ⟨S4x32, .f32⟩
  | 32 => ⟨S4x32, .f32⟩
  | 33 => ⟨S4x32x1, .f32⟩
  | 34 => ⟨S4x32x1024, .f32⟩
  | 35 => ⟨S4x32x1024, .f32⟩
  | 36 => ⟨S4x32x1024, .f32⟩
  | 37 => ⟨S_, .f32⟩
  | 38 => ⟨S4x32, .f32⟩
  | 39 => ⟨S4x32x1, .f32⟩
  | 40 => ⟨S4x32x1024, .f32⟩
  | 41 => ⟨S4x32x1024, .f32⟩
  | 42 => ⟨S4x1024x512, .f32⟩
  | 43 => ⟨S4x1024x512, .f32⟩
  | 44 => ⟨S4x1024x512, .f32⟩
  | 45 => ⟨S4x32x512, .f32⟩
  | 46 => ⟨S4x32x512, .f32⟩
  | 47 => ⟨S4x32x512, .f32⟩
  | 48 => ⟨S4x32x512, .f32⟩
  | 49 => ⟨S2x32x512, .f32⟩
  | 50 => ⟨S2x32x512, .f32⟩
  | 51 => ⟨S2x32x1x512, .f32⟩
  | 52 => ⟨S2x1x32x512, .f32⟩
  | 53 => ⟨S2x32x32x512, .f32⟩
  | 54 => ⟨S2x32x32x512, .f32⟩
  | 55 => ⟨S2x32x32x512, .f32⟩
  | 56 => ⟨S2x1024x512, .f32⟩
  | 57 => ⟨S_, .f32⟩
  | 58 => ⟨S2x512, .f32⟩
  | 59 => ⟨S2x1x512, .f32⟩
  | 60 => ⟨S_, .f32⟩
  | 61 => ⟨S2x32, .f32⟩
  | 62 => ⟨S_, .f32⟩
  | 63 => ⟨S2x32, .f32⟩
  | 64 => ⟨S2x32, .f32⟩
  | 65 => ⟨S2x32x1, .f32⟩
  | 66 => ⟨S2x32x1024, .f32⟩
  | 67 => ⟨S2x32x1024, .f32⟩
  | 68 => ⟨S2x32x1024, .f32⟩
  | 69 => ⟨S_, .f32⟩
  | 70 => ⟨S2x32, .f32⟩
  | 71 => ⟨S2x32x1, .f32⟩
  | 72 => ⟨S2x32x1024, .f32⟩
  | 73 => ⟨S2x32x1024, .f32⟩
  | 74 => ⟨S2x1024x512, .f32⟩
  | 75 => ⟨S2x1024x512, .f32⟩
  | 76 => ⟨S2x1024x512, .f32⟩
  | 77 => ⟨S2x32x512, .f32⟩
  | 78 => ⟨S2x32x512, .f32⟩
  | 79 => ⟨S2x32x512, .f32⟩
  | 80 => ⟨S2x32x512, .f32⟩
  | 81 => ⟨S1x32x512, .f32⟩
  | 82 => ⟨S1x32x512, .f32⟩
  | 83 => ⟨S1x32x1x512, .f32⟩
  | 84 => ⟨S1x1x32x512, .f32⟩
  | 85 => ⟨S1x32x32x512, .f32⟩
  | 86 => ⟨S1x32x32x512, .f32⟩
  | 87 => ⟨S1x32x32x512, .f32⟩
  | 88 => ⟨S1x1024x512, .f32⟩
  | 89 => ⟨S_, .f32⟩
  | 90 => ⟨S1x512, .f32⟩
  | 91 => ⟨S1x1x512, .f32⟩
  | 92 => ⟨S_, .f32⟩
  | 93 => ⟨S1x32, .f32⟩
  | 94 => ⟨S_, .f32⟩
  | 95 => ⟨S1x32, .f32⟩
  | 96 => ⟨S1x32, .f32⟩
  | 97 => ⟨S1x32x1, .f32⟩
  | 98 => ⟨S1x32x1024, .f32⟩
  | 99 => ⟨S1x32x1024, .f32⟩
  | 100 => ⟨S1x32x1024, .f32⟩
  | 101 => ⟨S_, .f32⟩
  | 102 => ⟨S1x32, .f32⟩
  | 103 => ⟨S1x32x1, .f32⟩
  | 104 => ⟨S1x32x1024, .f32⟩
  | 105 => ⟨S1x32x1024, .f32⟩
  | 106 => ⟨S1x1024x512, .f32⟩
  | 107 => ⟨S1x1024x512, .f32⟩
  | 108 => ⟨S1x1024x512, .f32⟩
  | 109 => ⟨S1x32x512, .f32⟩
  | 110 => ⟨S1x32x512, .f32⟩
  | 111 => ⟨S1x32x512, .f32⟩
  | 112 => ⟨S1x32x512, .f32⟩
  | 113 => ⟨S_, .f32⟩
  | 114 => ⟨S_, .f32⟩
  | 115 => ⟨S_, .f32⟩
  | 116 => ⟨S_, .f32⟩
  | 117 => ⟨S1, .f32⟩
  | 118 => ⟨S32, .f32⟩
  | 119 => ⟨S32, .f32⟩
  | 120 => ⟨S32, .f32⟩
  | 121 => ⟨S_, .f32⟩
  | 122 => ⟨S_, .f32⟩
  | 123 => ⟨S1, .f32⟩
  | 124 => ⟨S1, .f32⟩
  | 125 => ⟨S32, .f32⟩
  | 126 => ⟨S32, .f32⟩
  | 127 => ⟨S32x1, .f32⟩
  | _ => ⟨S512x64, .i32⟩

abbrev hbmTy0_2 (i : Nat) : BufTy := match i % 128 with
  | 0 => ⟨S32x512, .f32⟩
  | 1 => ⟨S32x512, .f32⟩
  | 2 => ⟨S32x512, .f32⟩
  | 3 => ⟨S_, .f32⟩
  | 4 => ⟨S512, .f32⟩
  | 5 => ⟨S1x512, .f32⟩
  | 6 => ⟨S32x512, .f32⟩
  | 7 => ⟨S32x512, .f32⟩
  | 8 => ⟨S32x512, .f32⟩
  | 9 => ⟨S_, .f32⟩
  | 10 => ⟨S512, .f32⟩
  | 11 => ⟨S512, .f32⟩
  | 12 => ⟨S512, .f32⟩
  | 13 => ⟨S512x1, .f32⟩
  | _ => ⟨S512x64, .i32⟩

abbrev hbmTy (i : Nat) : BufTy := match i / 128 with
  | 0 => hbmTy0_0 i
  | 1 => hbmTy0_1 i
  | 2 => hbmTy0_2 i
  | _ => ⟨S512x64, .i32⟩

abbrev bufTy : (tb : Table) → Fin (tcTables nBuf tb) → BufTy
  | .hbm, ⟨i, _⟩ => hbmTy i
  | _, _ => ⟨S512x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst : Ref sig .tc := ⟨.hbm, 57, rfl⟩
abbrev main_v13 : Ref sig .tc := ⟨.hbm, 58, rfl⟩
abbrev main_v14 : Ref sig .tc := ⟨.hbm, 59, rfl⟩
abbrev main_cst_0 : Ref sig .tc := ⟨.hbm, 60, rfl⟩
abbrev main_v15 : Ref sig .tc := ⟨.hbm, 61, rfl⟩
abbrev main_cst_1 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_cst_2 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_3 : Ref sig .tc := ⟨.hbm, 89, rfl⟩
abbrev main_v41 : Ref sig .tc := ⟨.hbm, 90, rfl⟩
abbrev main_v42 : Ref sig .tc := ⟨.hbm, 91, rfl⟩
abbrev main_cst_4 : Ref sig .tc := ⟨.hbm, 92, rfl⟩
abbrev main_v43 : Ref sig .tc := ⟨.hbm, 93, rfl⟩
abbrev main_cst_5 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_6 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_7 : Ref sig .tc := ⟨.hbm, 121, rfl⟩
abbrev main_v69 : Ref sig .tc := ⟨.hbm, 122, rfl⟩
abbrev main_v70 : Ref sig .tc := ⟨.hbm, 123, rfl⟩
abbrev main_cst_8 : Ref sig .tc := ⟨.hbm, 124, rfl⟩
abbrev main_v71 : Ref sig .tc := ⟨.hbm, 125, rfl⟩
abbrev main_cst_9 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_10 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_11 : Ref sig .tc := ⟨.hbm, 153, rfl⟩
abbrev main_v97 : Ref sig .tc := ⟨.hbm, 154, rfl⟩
abbrev main_v98 : Ref sig .tc := ⟨.hbm, 155, rfl⟩
abbrev main_cst_12 : Ref sig .tc := ⟨.hbm, 156, rfl⟩
abbrev main_v99 : Ref sig .tc := ⟨.hbm, 157, rfl⟩
abbrev main_cst_13 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_14 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_15 : Ref sig .tc := ⟨.hbm, 185, rfl⟩
abbrev main_v125 : Ref sig .tc := ⟨.hbm, 186, rfl⟩
abbrev main_v126 : Ref sig .tc := ⟨.hbm, 187, rfl⟩
abbrev main_cst_16 : Ref sig .tc := ⟨.hbm, 188, rfl⟩
abbrev main_v127 : Ref sig .tc := ⟨.hbm, 189, rfl⟩
abbrev main_cst_17 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_18 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_19 : Ref sig .tc := ⟨.hbm, 217, rfl⟩
abbrev main_v153 : Ref sig .tc := ⟨.hbm, 218, rfl⟩
abbrev main_v154 : Ref sig .tc := ⟨.hbm, 219, rfl⟩
abbrev main_cst_20 : Ref sig .tc := ⟨.hbm, 220, rfl⟩
abbrev main_v155 : Ref sig .tc := ⟨.hbm, 221, rfl⟩
abbrev main_cst_21 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_22 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_call2_cst : Ref sig .tc := ⟨.hbm, 241, rfl⟩
abbrev main_call2_v0 : Ref sig .tc := ⟨.hbm, 242, rfl⟩
abbrev main_call2_cst_0 : Ref sig .tc := ⟨.hbm, 243, rfl⟩
abbrev main_call2_v1 : Ref sig .tc := ⟨.hbm, 244, rfl⟩
abbrev main_call2_v2 : Ref sig .tc := ⟨.hbm, 245, rfl⟩
abbrev main_call2_v3 : Ref sig .tc := ⟨.hbm, 246, rfl⟩
abbrev main_call2_v4 : Ref sig .tc := ⟨.hbm, 247, rfl⟩
abbrev main_call2_v5 : Ref sig .tc := ⟨.hbm, 248, rfl⟩
abbrev main_call2_cst_1 : Ref sig .tc := ⟨.hbm, 249, rfl⟩
abbrev main_call2_v6 : Ref sig .tc := ⟨.hbm, 250, rfl⟩
abbrev main_call2_v7 : Ref sig .tc := ⟨.hbm, 251, rfl⟩
abbrev main_call2_v8 : Ref sig .tc := ⟨.hbm, 252, rfl⟩
abbrev main_call2_v9 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_cst_23 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_cst_24 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩

abbrev nD : Nat := 1
abbrev τ : Topo := Topo.v7x

variable {F : FTy → Type} [FloatOps F]
-- ==== Proof.Maths.lean ====
/- The circuit over the real numbers: the value both programs compute, stated once, with the few facts
   about exponentials, logarithms and largest entries that both sides use. -/
module

public import Idealize.ShloMosaic.PureOps.Ideal.Laws
public import Idealize.ShloMosaic.Lib.ValueIdx
public import Mathlib.Tactic.FieldSimp
public import Mathlib.Tactic.Ring
public import Mathlib.Tactic.Positivity

@[expose] public section

noncomputable section

namespace Cert.Circuit

open Idealize.ShloMosaic

/-- The left and the right child of a region. -/
abbrev lo {n N : Nat} (h : 2 * n = N) (r : Fin n) : Fin N := ⟨2 * r.val, by omega⟩
abbrev hi {n N : Nat} (h : 2 * n = N) (r : Fin n) : Fin N := ⟨2 * r.val + 1, by omega⟩

/-- The two children's units that unit `c` of the outer product pairs. -/
abbrev fst (c : Fin 1024) : Fin 32 := ⟨c.val / 32, by omega⟩
abbrev snd (c : Fin 1024) : Fin 32 := ⟨c.val % 32, by omega⟩

/-- The softmax of a row of scores. -/
def soft {n : Nat} (w : Fin n → ℝ) (i : Fin n) : ℝ := Real.exp (w i) / ∑ j, Real.exp (w j)

theorem total_pos {n : Nat} [NeZero n] (w : Fin n → ℝ) : 0 < ∑ j, Real.exp (w j) :=
  Finset.sum_pos (fun _ _ => Real.exp_pos _) Finset.univ_nonempty

theorem soft_pos {n : Nat} [NeZero n] (w : Fin n → ℝ) (i : Fin n) : 0 < soft w i :=
  div_pos (Real.exp_pos _) (total_pos w)

/-- The softmax does not see a shift of its scores. -/
theorem soft_shift {n : Nat} [NeZero n] (w : Fin n → ℝ) (μ : ℝ) (i : Fin n) :
    Real.exp (w i - μ) / ∑ j, Real.exp (w j - μ) = soft w i := by
  have h := (Real.exp_pos μ).ne'
  have h' := (total_pos w).ne'
  simp only [Real.exp_sub, ← Finset.sum_div, soft]
  field_simp

/-- The logarithm of the softmax, spelt with a shift. -/
theorem log_soft_shift {n : Nat} [NeZero n] (w : Fin n → ℝ) (μ : ℝ) (i : Fin n) :
    (w i - μ) - Real.log (∑ j, Real.exp (w j - μ)) = Real.log (soft w i) := by
  rw [← soft_shift w μ i, Real.log_div (Real.exp_pos _).ne' (total_pos fun j => w j - μ).ne', Real.log_exp]

/-- One unit of one region: the children's products mixed by a softmax. -/
def mixed (w : Fin 1024 → ℝ) (A B : Fin 32 → ℝ) : ℝ := ∑ c, soft w c * (A (fst c) * B (snd c))

theorem mixed_pos (w : Fin 1024 → ℝ) (A B : Fin 32 → ℝ) (hA : ∀ k, 0 < A k) (hB : ∀ k, 0 < B k) : 0 < mixed w A B :=
  Finset.sum_pos (fun c _ => mul_pos (soft_pos w c) (mul_pos (hA _) (hB _))) Finset.univ_nonempty

/-- Common factors of the children come out of the mixture. -/
theorem mixed_mul (w : Fin 1024 → ℝ) (A B : Fin 32 → ℝ) (s t : ℝ) :
    mixed w (fun k => A k * s) (fun k => B k * t) = mixed w A B * (s * t) := by
  rw [mixed, mixed, Finset.sum_mul]
  exact Finset.sum_congr rfl fun c _ => by ring

/-- A leaf: the probability of the observed category. -/
def leaf (t : Fin 64 → Fin 32 → Fin 256 → ℝ) (x : Fin 512 → Fin 64 → Fin 256) (v : Fin 64) (k : Fin 32) (b : Fin 512) : ℝ :=
  soft (t v k) (x b v)

/-- A level: every region mixes its two children. -/
def level {n N : Nat} (h : 2 * n = N) (w : Fin n → Fin 32 → Fin 1024 → ℝ) (X : Fin N → Fin 32 → Fin 512 → ℝ)
    (r : Fin n) (k : Fin 32) (b : Fin 512) : ℝ :=
  mixed (w r k) (fun i => X (lo h r) i b) (fun i => X (hi h r) i b)

theorem leaf_pos (t : Fin 64 → Fin 32 → Fin 256 → ℝ) (x : Fin 512 → Fin 64 → Fin 256) (v : Fin 64) (k : Fin 32) (b : Fin 512) :
    0 < leaf t x v k b := soft_pos _ _

theorem level_pos {n N : Nat} (h : 2 * n = N) (w : Fin n → Fin 32 → Fin 1024 → ℝ) (X : Fin N → Fin 32 → Fin 512 → ℝ)
    (hX : ∀ v k b, 0 < X v k b) (r : Fin n) (k : Fin 32) (b : Fin 512) : 0 < level h w X r k b :=
  mixed_pos _ _ _ (fun _ => hX _ _ _) (fun _ => hX _ _ _)

/-- The root: the log likelihood of one sample. -/
def answer (w : Fin 32 → ℝ) (X : Fin 32 → ℝ) : ℝ := Real.log (∑ k, soft w k * X k)

/-! ## Reading sums, largest entries and quotients of real arrays at the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals is one of them. -/
theorem fold_max_coe {ι : Type} [Fintype ι] [Nonempty ι] (f : ι → ℝ) :
    ∃ k, (Finset.univ : Finset ι).fold max (⊥ : EReal) (fun i => (f i : EReal)) = (f k : EReal) := by
  obtain ⟨k, _, hk⟩ := Finset.exists_mem_eq_sup (Finset.univ : Finset ι) Finset.univ_nonempty (fun i => (f i : EReal))
  exact ⟨k, hk⟩

theorem div_coe_coe (x : ℝ) {y : ℝ} (h : y ≠ 0) : Ideal.div (x : EReal) (y : EReal) = ((x / y : ℝ) : EReal) := by
  rw [Ideal.div_coe h, ← EReal.coe_mul, mul_one_div]

theorem log_coe_pos {x : ℝ} (h : 0 < x) : Ideal.log (x : EReal) = (Real.log x : EReal) := by
  rw [Ideal.log_coe, if_neg (not_le.2 h)]

theorem one_f32 : Ideal.ofBits .f32 0x3F800000#32 = ((1 : ℝ) : EReal) := by
  simp [Ideal.ofBits, Ideal.ieee, -EReal.coe_mul]; norm_num

theorem least_f32 : Ideal.ofBits .f32 0xFF800000#32 = ⊥ := by simp [Ideal.ofBits, Ideal.ieee]

end Cert.Circuit
-- ==== Proof.KTree.lean ====
/- The kernel's circuit as a tree of blocks: one leaf block per variable, one mixing block per region and level,
   one root block; and the one store of the kernel's run is that tree of the loads. -/
module

public import proofs.«01_k».proof.Proof.Gen.KernelIdeal.Frame
public import proofs.«01_k».proof.Proof.Maths

@[expose] public section

noncomputable section

namespace Cert.KernelIdeal.Tree

open Idealize.ShloMosaic Idealize.ShloMosaic.TcCoe Idealize.ShloMosaic.Tactic
open Cert.KernelIdeal.Gen Cert.Circuit

variable {F : FTy → Type} [FloatOps F]

/-- One region: the outer product of the children's columns, mixed by the normalised weights. -/
def mix (a b : FVec F S32x512 .bf16) (w : Vec F S1x32x1024 .f32) : FVec F S32x512 .f32 := k0_pay117 a b w

/-- The largest entry of each column. -/
def colMax (d : FVec F S32x512 .f32) : FVec F S1x512 .f32 :=
  shapeCast S1x512 (multiReduction .maximumf [0] S512 d 0xFF800000#32 reduces_S32x512_S512 (.inl rfl) rfl) shapeCasts_S512_S1x512

/-- Each column over its largest entry. -/
def scaled (d : FVec F S32x512 .f32) : FVec F S32x512 .bf16 :=
  truncf .bf16 (mulf d (broadcastTo S32x512 (divf (broadcast S1x512 (Scalar.ofBits .f32 0x3F800000#32)) (colMax d))
    broadcasts_S1x512_S32x512)) bitsLt_bf16_f32

/-- The logarithm of what the two children were divided by. -/
def logMax (a b : FVec F S32x512 .f32) : FVec F S1x512 .f32 := log (mulf (colMax a) (colMax b))

/-- The root: the last region's column mixed by the root weights, back in logarithms. -/
def root (d : FVec F S32x512 .f32) (m : FVec F S1x512 .f32) (wr : Vec F S32x1 .f32) : FVec F S1x512 .f32 :=
  subf (addf (log (shapeCast S1x512 (multiReduction .add [0] S512 (mulf d (broadcastTo S32x512 (k0_pay342 wr)
    broadcasts_S32x1_S32x512)) 0x00000000#32 reduces_S32x512_S512 (.inl rfl) rfl) shapeCasts_S512_S1x512)) m)
    (broadcast S1x512 (Scalar.log (k0_pay344 wr)))

variable (I : Fin 64 → Vec F S1x512 .i32) (T : Fin 64 → Vec F S1x32x256 .f32)
variable (W1 : Fin 32 → Vec F S1x32x1024 .f32)
variable (W2 : Fin 16 → Vec F S1x32x1024 .f32)
variable (W3 : Fin 8 → Vec F S1x32x1024 .f32)
variable (W4 : Fin 4 → Vec F S1x32x1024 .f32)
variable (W5 : Fin 2 → Vec F S1x32x1024 .f32)
variable (W6 : Fin 1 → Vec F S1x32x1024 .f32)

def leafs (v : Fin 64) : FVec F S32x512 .bf16 := k0_pay2 (T v) (I v)
def d1 (r : Fin 32) : FVec F S32x512 .f32 := mix (leafs I T (lo (by decide) r)) (leafs I T (hi (by decide) r)) (W1 r)
def d2 (r : Fin 16) : FVec F S32x512 .f32 := mix (scaled (d1 I T W1 (lo (by decide) r))) (scaled (d1 I T W1 (hi (by decide) r))) (W2 r)
def m2 (r : Fin 16) : FVec F S1x512 .f32 := logMax (d1 I T W1 (lo (by decide) r)) (d1 I T W1 (hi (by decide) r))
def d3 (r : Fin 8) : FVec F S32x512 .f32 := mix (scaled (d2 I T W1 W2 (lo (by decide) r))) (scaled (d2 I T W1 W2 (hi (by decide) r))) (W3 r)
def m3 (r : Fin 8) : FVec F S1x512 .f32 :=
  addf (logMax (d2 I T W1 W2 (lo (by decide) r)) (d2 I T W1 W2 (hi (by decide) r)))
    (addf (m2 I T W1 (lo (by decide) r)) (m2 I T W1 (hi (by decide) r)))
def d4 (r : Fin 4) : FVec F S32x512 .f32 := mix (scaled (d3 I T W1 W2 W3 (lo (by decide) r))) (scaled (d3 I T W1 W2 W3 (hi (by decide) r))) (W4 r)
def m4 (r : Fin 4) : FVec F S1x512 .f32 :=
  addf (logMax (d3 I T W1 W2 W3 (lo (by decide) r)) (d3 I T W1 W2 W3 (hi (by decide) r)))
    (addf (m3 I T W1 W2 (lo (by decide) r)) (m3 I T W1 W2 (hi (by decide) r)))
def d5 (r : Fin 2) : FVec F S32x512 .f32 := mix (scaled (d4 I T W1 W2 W3 W4 (lo (by decide) r))) (scaled (d4 I T W1 W2 W3 W4 (hi (by decide) r))) (W5 r)
def m5 (r : Fin 2) : FVec F S1x512 .f32 :=
  addf (logMax (d4 I T W1 W2 W3 W4 (lo (by decide) r)) (d4 I T W1 W2 W3 W4 (hi (by decide) r)))
    (addf (m4 I T W1 W2 W3 (lo (by decide) r)) (m4 I T W1 W2 W3 (hi (by decide) r)))
def d6 (r : Fin 1) : FVec F S32x512 .f32 := mix (scaled (d5 I T W1 W2 W3 W4 W5 (lo (by decide) r))) (scaled (d5 I T W1 W2 W3 W4 W5 (hi (by decide) r))) (W6 r)
def m6 (r : Fin 1) : FVec F S1x512 .f32 :=
  addf (logMax (d5 I T W1 W2 W3 W4 W5 (lo (by decide) r)) (d5 I T W1 W2 W3 W4 W5 (hi (by decide) r)))
    (addf (m5 I T W1 W2 W3 W4 (lo (by decide) r)) (m5 I T W1 W2 W3 W4 (hi (by decide) r)))

/-- The whole circuit. -/
def out (wr : Vec F S32x1 .f32) : FVec F S1x512 .f32 := root (d6 I T W1 W2 W3 W4 W5 W6 0) (m6 I T W1 W2 W3 W4 W5 0) wr

theorem inbT (v : Fin 64) (a : Fin S64x32x256.rank) : (![v.val, 0, 0] : Fin 3 → Nat) a + S1x32x256.size a ≤ S64x32x256.size a := by
  match a with
  | ⟨0, _⟩ => exact v.isLt
  | ⟨1, _⟩ => exact Nat.le_refl 32
  | ⟨2, _⟩ => exact Nat.le_refl 256

theorem inbI (v : Fin 64) (a : Fin S64x512.rank) : (![v.val, 0] : Fin 2 → Nat) a + S1x512.size a ≤ S64x512.size a := by
  match a with
  | ⟨0, _⟩ => exact v.isLt
  | ⟨1, _⟩ => exact Nat.le_refl 512

theorem inbW {n : Nat} (r : Fin n) (a : Fin 3) : (![r.val, 0, 0] : Fin 3 → Nat) a + S1x32x1024.size a ≤ (⟨3, ![n, 32, 1024]⟩ : Shape).size a := by
  match a with
  | ⟨0, _⟩ => exact r.isLt
  | ⟨1, _⟩ => exact Nat.le_refl 32
  | ⟨2, _⟩ => exact Nat.le_refl 1024

/-- The rectangle of a level's weight table holding one region's weights. -/
abbrev rowW {n : Nat} (r : Fin n) : Rect (⟨3, ![n, 32, 1024]⟩ : Shape) :=
  Rect.unit (s := (⟨3, ![n, 32, 1024]⟩ : Shape)) ![r.val, 0, 0] S1x32x1024.size (inbW r)

set_option maxHeartbeats 4000000 in
/-- The run's one store into the output, as the tree of what it loaded. -/
theorem pieces (c : Dev nD) (arg0 : Memref sig .tc .vmem S64x512 .i32) (harg0 : arg0.IsWhole) (arg1 : Memref sig .tc .vmem S64x32x256 .f32) (harg1 : arg1.IsWhole) (arg8 : Memref sig .tc .vmem S32x1 .f32) (harg8 : arg8.IsWhole) (arg9 : Memref sig .tc .vmem S1x512 .f32) (harg9 : arg9.IsWhole) (arg10 : Memref sig .tc .vmem S32x32x1024 .f32) (harg10 : arg10.IsWhole) (arg11 : Memref sig .tc .vmem S16x32x1024 .f32) (harg11 : arg11.IsWhole) (arg12 : Memref sig .tc .vmem S8x32x1024 .f32) (harg12 : arg12.IsWhole) (arg13 : Memref sig .tc .vmem S4x32x1024 .f32) (harg13 : arg13.IsWhole) (arg14 : Memref sig .tc .vmem S2x32x1024 .f32) (harg14 : arg14.IsWhole) (arg15 : Memref sig .tc .vmem S1x32x1024 .f32) (harg15 : arg15.IsWhole)
    (x0 : Vec F S64x512 .i32) (x1 : Vec F S64x32x256 .f32) (x2 : Vec F S32x1 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    (kernelRun0_A c arg0 harg0 arg1 harg1 arg8 harg8 arg9 harg9 arg10 harg10 arg11 harg11 arg12 harg12 arg13 harg13 arg14 harg14 arg15 harg15 x0 x1 x2 fh0 fh1 fh2 fh3 fh4 fh5).1 =
      [⟨Rect.unit ![0, 0] ![1, 512] inb_S1x512_S1x512_0_0, out
      (fun v => View.readAt (Elt F) arg0.view (Rect.unit (s := S64x512) ![v.val, 0] S1x512.size (inbI v)).toLoadRect (harg0.unread x0))
      (fun v => View.readAt (Elt F) arg1.view (Rect.unit (s := S64x32x256) ![v.val, 0, 0] S1x32x256.size (inbT v)).toLoadRect (harg1.unread x1))
      (fun r => arg10.view.readCov [⟨Rect.whole S32x32x1024, ReadAs.same.apply (View.read (Elt F) (Memref.whole main_arg2).view fh0)⟩] (rowW r).toLoadRect)
      (fun r => arg11.view.readCov [⟨Rect.whole S16x32x1024, ReadAs.same.apply (View.read (Elt F) (Memref.whole main_arg3).view fh1)⟩] (rowW r).toLoadRect)
      (fun r => arg12.view.readCov [⟨Rect.whole S8x32x1024, ReadAs.same.apply (View.read (Elt F) (Memref.whole main_arg4).view fh2)⟩] (rowW r).toLoadRect)
      (fun r => arg13.view.readCov [⟨Rect.whole S4x32x1024, ReadAs.same.apply (View.read (Elt F) (Memref.whole main_arg5).view fh3)⟩] (rowW r).toLoadRect)
      (fun r => arg14.view.readCov [⟨Rect.whole S2x32x1024, ReadAs.same.apply (View.read (Elt F) (Memref.whole main_arg6).view fh4)⟩] (rowW r).toLoadRect)
      (fun r => arg15.view.readCov [⟨Rect.whole S1x32x1024, ReadAs.same.apply (View.read (Elt F) (Memref.whole main_arg7).view fh5)⟩] (rowW r).toLoadRect)
      (View.readAt (Elt F) arg8.view (Rect.unit ![0, 0] S32x1.size inb_S32x1_S32x1_0_0).toLoadRect (harg8.unread x2))⟩] := by
  sl_kernel_rfl

end Cert.KernelIdeal.Tree

end
-- ==== Proof.KRun.lean ====
/- The kernel's run: its result array as one function of the argument arrays, at any float values. -/
module

public import proofs.«01_k».proof.Proof.KTree
public import Idealize.ShloMosaic.Lib.Pipeline.Value

@[expose] public section

noncomputable section

namespace Cert.KernelIdeal.Tree

open Idealize.ShloMosaic Idealize.ShloMosaic.TcCoe Idealize.SL.Sem
open Cert.KernelIdeal.Gen

variable {F : FTy → Type} [FloatOps F]

/-- The log likelihoods in one row, from the arrays the region finds. -/
def rowOf (x : Vec F S64x512 .i32) (t : Vec F S64x32x256 .f32) (w1 : Vec F S32x32x1024 .f32) (w2 : Vec F S16x32x1024 .f32)
    (w3 : Vec F S8x32x1024 .f32) (w4 : Vec F S4x32x1024 .f32) (w5 : Vec F S2x32x1024 .f32) (w6 : Vec F S1x32x1024 .f32)
    (wr : Vec F S32x1 .f32) : Vec F S1x512 .f32 :=
  out (fun v => View.ld (Val := Elt F) x (Rect.unit (s := S64x512) ![v.val, 0] S1x512.size (inbI v)))
    (fun v => View.ld (Val := Elt F) t (Rect.unit (s := S64x32x256) ![v.val, 0, 0] S1x32x256.size (inbT v)))
    (fun r => View.ld (Val := Elt F) w1 (rowW r)) (fun r => View.ld (Val := Elt F) w2 (rowW r)) (fun r => View.ld (Val := Elt F) w3 (rowW r))
    (fun r => View.ld (Val := Elt F) w4 (rowW r)) (fun r => View.ld (Val := Elt F) w5 (rowW r)) (fun r => View.ld (Val := Elt F) w6 (rowW r)) wr

/-- A load out of a buffer filled by one transfer of a whole array reads the array. -/
theorem load_filled {S : Shape} {e : EltTy} {sp : Space} (v : View sig .tc sp S e) (X : S.Idx → Elt F e) (r : Rect S) :
    v.readCov [(⟨Rect.whole S, X⟩ : View.Piece (Elt F) S e)] r.toLoadRect = View.ld X r := by
  rw [View.readCov_eq_canon_ld _ _ _ (fun y => ⟨_, List.mem_singleton_self _, by
    rw [Rect.set_whole]; exact Finset.mem_univ y⟩)]
  exact congrArg (View.ld · r) (View.canon_unit_zero (S := S) rfl (fun a => Nat.le_of_eq (Nat.zero_add _)) X)

variable (m : (ℓ : Loc nD τ sig) → Buf (Elt F) ℓ)

theorem blk0 (t : Fin cfg0.N) (X : Vec F S64x512 .i32) : ((cfg0.win 0).blk t).view.read (Elt F) X = X :=
  funext fun j => congrArg X (funext fun a => Fin.ext (show 0 * _ + 1 * (j a).val = (j a).val by omega))
theorem blk1 (t : Fin cfg0.N) (X : Vec F S64x32x256 .f32) : ((cfg0.win 1).blk t).view.read (Elt F) X = X :=
  funext fun j => congrArg X (funext fun a => Fin.ext (show 0 * _ + 1 * (j a).val = (j a).val by omega))
theorem blk2 (t : Fin cfg0.N) (X : Vec F S32x1 .f32) : ((cfg0.win 2).blk t).view.read (Elt F) X = X :=
  funext fun j => congrArg X (funext fun a => Fin.ext (show 0 * _ + 1 * (j a).val = (j a).val by omega))
theorem emb3 (t : Fin cfg0.N) (j : S1x512.Idx) : ((cfg0.win 3).blk t).view.emb j = j :=
  funext fun a => Fin.ext (show 0 * _ + 1 * (j a).val = (j a).val by omega)

/-- What the body leaves in its result block. -/
theorem outsAt_eq (c : Dev nD) (t : Fin cfg0.N) :
    outsAt0 m c t = rowOf (V m c main_v0) (V m c main_arg1) (V m c main_arg2) (V m c main_arg3) (V m c main_arg4) (V m c main_arg5)
      (V m c main_arg6) (V m c main_arg7) (V m c main_v1) := by
  unfold outsAt0 out0_A_3
  have hz : (![0, 0] : Fin 2 → Nat) = fun _ => 0 := funext fun a => by fin_cases a <;> rfl
  have b0 : iblk m c 0 t = V m c main_v0 := blk0 t _
  have b1 : iblk m c 1 t = V m c main_arg1 := blk1 t _
  have b2 : iblk m c 2 t = V m c main_v1 := blk2 t _
  rw [View.read_writes_junk_eq_canon, pieces]
  refine (View.canon_unit_zero (S := S1x512) hz inb_S1x512_S1x512_0_0 _).trans ?_
  simp only [load_filled, View.readAt_eq_ld, (hs0_0 t).read_unread, (hs0_1 t).read_unread, (hs0_2 t).read_unread, b0, b1, b2]
  rw [View.ld_unit_zero hz]
  rfl

theorem flushed_eq (c : Dev nD) (t : Fin cfg0.N) (X : Vec F S1x512 .f32) (h : outsAt0 m c t = X) :
    (dats m 0 c).flushed 3 t = ((cfg0.win 3).blk t).view.read (Elt F) X := by
  unfold Pipeline.Dat.flushed
  rw [after0_3, h]
  funext j
  show X j = X (((cfg0.win 3).blk t).view.emb j)
  rw [emb3]

/-- The result array after the run. -/
theorem final (c : Dev nD) : (dats m 0 c).arrAt 3 cfg0.N = rowOf (V m c main_v0) (V m c main_arg1) (V m c main_arg2) (V m c main_arg3)
    (V m c main_arg4) (V m c main_arg5) (V m c main_arg6) (V m c main_arg7) (V m c main_v1) :=
  (dats m 0 c).arrAt_eq_of_cover 3 _ (fun t _ => flushed_eq m c t _ (outsAt_eq m c t)) fun i =>
    ⟨⟨0, by decide⟩, flush0_3 _, by
      have h := ((cfg0.win 3).blk (⟨0, by decide⟩ : Fin cfg0.N)).view.emb_mem_set i
      rwa [emb3] at h⟩

theorem V_v0 (c : Dev nD) : V m c main_v0 = transpose S64x512 [1, 0] (m ((c : Thread nD τ).loc main_arg0)) transposes_S512x64_S64x512_1_0 := by
  show StableHlo.after (List.flatten [hostOps0]) (fun b => m (c, b)) (Proc.devRef .tc main_v0) = _
  simp only [List.flatten_cons, List.flatten_nil, List.append_nil, hostOps0]
  after_results

theorem V_v1 (c : Dev nD) : V m c main_v1 = broadcastInDim S32x1 ![0] bcast_S32_S32x1_0 (m ((c : Thread nD τ).loc main_arg8)) := by
  show StableHlo.after (List.flatten [hostOps0]) (fun b => m (c, b)) (Proc.devRef .tc main_v1) = _
  simp only [List.flatten_cons, List.flatten_nil, List.append_nil, hostOps0]
  after_results

/-- The kernel's result as a function of its argument arrays. -/
def resultOf (x : Vec F S512x64 .i32) (t : Vec F S64x32x256 .f32) (w1 : Vec F S32x32x1024 .f32) (w2 : Vec F S16x32x1024 .f32)
    (w3 : Vec F S8x32x1024 .f32) (w4 : Vec F S4x32x1024 .f32) (w5 : Vec F S2x32x1024 .f32) (w6 : Vec F S1x32x1024 .f32)
    (wr : Vec F S32 .f32) : Vec F S512x1 .f32 :=
  shapeCast S512x1 (rowOf (transpose S64x512 [1, 0] x transposes_S512x64_S64x512_1_0) t w1 w2 w3 w4 w5 w6
    (broadcastInDim S32x1 ![0] bcast_S32_S32x1_0 wr)) shapeCasts_S1x512_S512x1

theorem tail_eq (c : Dev nD) : Pipeline.afterTail₀ cfgs (dats m) 0 (V0 m) [hostOps1] c main_v3
    = resultOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  unfold Pipeline.afterTail₀
  simp only [List.flatten_cons, List.flatten_nil, List.append_nil, hostOps1, StableHlo.after_cons, StableHlo.after_nil]
  rw [StableHlo.reshape_result]
  have h : Pipeline.withArrays (τ := τ) spec0 c (V0 m c) (fun w => (dats m 0 c).arrAt w cfg0.N) (Proc.devRef .tc main_v2) = (dats m 0 c).arrAt 3 cfg0.N :=
    Pipeline.withArrays_arr spec0 (by decide) c (V0 m c) _ 3
  rw [final, V_v0, V_v1, V_main_arg1, V_main_arg2, V_main_arg3, V_main_arg4, V_main_arg5, V_main_arg6, V_main_arg7] at h
  exact congrArg (fun X => shapeCast S512x1 X shapeCasts_S1x512_S512x1) h

variable (ρ : Dev nD → PrngReg)

/-- The run with its result array at that function of the arguments. -/
theorem run : θ_run defs (onTc (τ := τ) (main (F := F))) ⟨m, fun _ => 0, ρ⟩ fun r => ∀ c : Dev nD,
    r.2.mem ((c : Thread nD τ).loc main_v3)
      = resultOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (θ_run defs _ _).mono (fun _ h c => ((h c).2 main_v3 (by decide)).trans (tail_eq m c)) (run_main m ρ)

end Cert.KernelIdeal.Tree
-- ==== Proof.KBlocks.lean ====
/- The kernel's blocks on arrays of real numbers: what each computes, entry by entry. -/
module

public import proofs.«01_k».proof.Proof.KTree
public import proofs.«01_k».proof.Proof.Maths
public import Idealize.ShloMosaic.Lib.MatmulPlain
public import Idealize.ShloMosaic.Lib.Pipeline.Value

@[expose] public section

noncomputable section

namespace Cert.KernelIdeal.Tree

open Idealize.ShloMosaic Idealize.ShloMosaic.ValueIdx Idealize.ShloMosaic.TcCoe
open Cert.KernelIdeal.Gen Cert.Circuit

theorem log_mul_at {s : Shape} (x y : FVec Ideal s .f32) (i : s.Idx) : log (mulf x y) i = Ideal.log (x i * y i) := rfl

theorem recip_at {s : Shape} (x : FVec Ideal s .f32) (i : s.Idx) :
    divf (broadcast s (Scalar.ofBits (F := Ideal) .f32 0x3F800000#32)) x i = Ideal.div ((1 : ℝ) : EReal) (x i) :=
  congrArg (fun z => Ideal.div z (x i)) one_f32

/-- The reciprocal of each row's total of exponentials, spread over the samples. -/
theorem recip_rows {K : Nat} [NeZero K] (e : FVec Ideal ⟨2, ![32, K]⟩ .f32) (w : Fin 32 → Fin K → ℝ)
    (he : ∀ k c, e (ix2 k c) = ((Real.exp (w k c) : ℝ) : EReal))
    (h : Shape.Reduces ⟨2, ![32, K]⟩ [1] S32) (hφ : FKind.Formats .f32) (hacc : (0x00000000#32 : BitVec 32) = FKind.add.neutral .f32 hφ)
    (k : Fin 32) (b : Fin 512) :
    broadcastTo S32x512 (divf (broadcast S32x1 (Scalar.ofBits (F := Ideal) .f32 0x3F800000#32))
      (shapeCast S32x1 (multiReduction .add [1] S32 e 0x00000000#32 h hφ hacc) shapeCasts_S32_S32x1))
      broadcasts_S32x1_S32x512 (ix2 k b) = ((1 / ∑ c, Real.exp (w k c) : ℝ) : EReal) := by
  rw [broadcastTo_apply _ _ _ (ix2 k 0) (by intro a; fin_cases a <;> rfl), divf_apply, broadcast_apply,
    shapeCast_apply _ _ _ (ix1 k) (by rw [Shape.rowMajor_val_one, Shape.rowMajor_val_two]; simp [ix1, ix2]),
    Ideal.multiReduction_add_single]
  have hs : ∑ c : Fin K, e (h.lift (ix1 k) c) = ((∑ c, Real.exp (w k c) : ℝ) : EReal) := by
    rw [coe_sum]
    refine Finset.sum_congr rfl fun c _ => ?_
    rw [← he k c]
    exact congrArg e (funext fun a => Fin.ext (by fin_cases a <;> rfl))
  refine Eq.trans (congrArg₂ Ideal.div one_f32 hs) ?_
  exact div_coe_coe 1 (total_pos (w k)).ne'

/-- A leaf block: the probability of the observed category. -/
theorem leafs_real (T : Vec Ideal S1x32x256 .f32) (I : Vec Ideal S1x512 .i32) (t : Fin 32 → Fin 256 → ℝ) (x : Fin 512 → Fin 256)
    (hT : ∀ k c, T (ix3 0 k c) = (t k c : EReal)) (hI : ∀ b, I (ix2 0 b) = BitVec.ofNat 32 (x b).val)
    (k : Fin 32) (b : Fin 512) : k0_pay2 T I (ix2 k b) = ((soft (t k) (x b) : ℝ) : EReal) := by
  have hcast : ∀ k c, shapeCast S32x256 T shapeCasts_S1x32x256_S32x256 (ix2 k c) = (t k c : EReal) := fun k c => by
    rw [shapeCast_apply _ _ _ (ix3 0 k c) (by rw [Shape.rowMajor_val_three, Shape.rowMajor_val_two]; simp [ix2, ix3]), hT]
  have hexp : ∀ k c, (exp (truncf .bf16 (shapeCast S32x256 T shapeCasts_S1x32x256_S32x256) bitsLt_bf16_f32) : FVec Ideal S32x256 .bf16) (ix2 k c)
      = ((Real.exp (t k c) : ℝ) : EReal) := fun k c => by
    show Ideal.exp (shapeCast S32x256 T shapeCasts_S1x32x256_S32x256 (ix2 k c)) = _
    rw [hcast, Ideal.exp_coe]
  have hhot : ∀ c b, (sitofp .f32 (extui 32 (cmpi .eq (iota .tc S256x512 32 [0] iota_S256x512_d0_w32)
      (broadcastTo S256x512 (shapeCast S1x512 I shapeCasts_S1x512_S1x512) broadcasts_S1x512_S256x512)) natLt_1_32) : FVec Ideal S256x512 .f32) (ix2 c b)
      = ((if c = x b then 1 else 0 : ℝ) : EReal) := fun c b => by
    rw [sitofp_apply, extui_apply]
    show FloatOps.sitofp FTy.f32 (BitVec.setWidth 32 (IntOp.cmpi .eq (iota .tc S256x512 32 [0] iota_S256x512_d0_w32 (ix2 c b))
      (broadcastTo S256x512 (shapeCast S1x512 I shapeCasts_S1x512_S1x512) broadcasts_S1x512_S256x512 (ix2 c b)))) = _
    rw [iota_single_apply, broadcastTo_apply _ _ _ (ix2 0 b) (by intro a; fin_cases a <;> rfl), shapeCast_self, hI]
    show (((BitVec.setWidth 32 (BitVec.ofBool (BitVec.ofNat 32 c.val == BitVec.ofNat 32 (x b).val))).toInt : ℝ) : EReal) = _
    by_cases h : c = x b
    · subst h; simp
    · have hne : (BitVec.ofNat 32 c.val == BitVec.ofNat 32 (x b).val) = false := by
        rw [beq_eq_false_iff_ne]
        intro hh
        have := congrArg BitVec.toNat hh
        simp only [BitVec.toNat_ofNat] at this
        have h1 := c.isLt; have h2 := (x b).isLt
        exact h (Fin.ext (by omega))
      rw [hne, if_neg h]; simp
  refine Eq.trans (congrArg₂ (· * ·) (Ideal.matmul_plain_apply none _ _ _ k b)
    (recip_rows (K := 256) _ t hexp reduces_S32x256_S32 (.inl rfl) rfl k b)) ?_
  rw [constant_apply, Ideal.ofBits_zero_f32, zero_add]
  refine Eq.trans (congrArg (· * _) (Finset.sum_congr rfl fun c _ => (congrArg₂ (· * ·) (hexp k c) (hhot c b)))) ?_
  simp only [← EReal.coe_mul, ← coe_sum]
  simp [soft, div_eq_mul_inv]

/-- A mixing block. -/
theorem mix_real (a b : FVec Ideal S32x512 .bf16) (w : Vec Ideal S1x32x1024 .f32) (A B : Fin 32 → Fin 512 → ℝ)
    (v : Fin 32 → Fin 1024 → ℝ) (ha : ∀ k s, a (ix2 k s) = (A k s : EReal)) (hb : ∀ k s, b (ix2 k s) = (B k s : EReal))
    (hw : ∀ k c, w (ix3 0 k c) = (v k c : EReal)) (k : Fin 32) (s : Fin 512) :
    mix a b w (ix2 k s) = ((mixed (v k) (fun i => A i s) (fun i => B i s) : ℝ) : EReal) := by
  have hexp : ∀ k c, (exp (truncf .bf16 (shapeCast S32x1024 w shapeCasts_S1x32x1024_S32x1024) bitsLt_bf16_f32) : FVec Ideal S32x1024 .bf16) (ix2 k c)
      = ((Real.exp (v k c) : ℝ) : EReal) := fun k c => by
    show Ideal.exp (shapeCast S32x1024 w shapeCasts_S1x32x1024_S32x1024 (ix2 k c)) = _
    rw [shapeCast_apply _ _ _ (ix3 0 k c) (by rw [Shape.rowMajor_val_three, Shape.rowMajor_val_two]; simp [ix2, ix3]), hw, Ideal.exp_coe]
  have hprod : ∀ c, shapeCast S1024x512 (mulf (broadcastTo S32x32x512 (shapeCast S32x1x512 a shapeCasts_S32x512_S32x1x512) broadcasts_S32x1x512_S32x32x512)
      (broadcastTo S32x32x512 (shapeCast S1x32x512 b shapeCasts_S32x512_S1x32x512) broadcasts_S1x32x512_S32x32x512)) shapeCasts_S32x32x512_S1024x512 (ix2 c s)
      = ((A (fst c) s * B (snd c) s : ℝ) : EReal) := fun c => by
    rw [shapeCast_apply _ _ _ (ix3 (fst c) (snd c) s) (by
        rw [Shape.rowMajor_val_three, Shape.rowMajor_val_two]; simp only [ix2, ix3]
        show (c.val / 32 * 32 + c.val % 32) * 512 + s.val = c.val * 512 + s.val
        omega),
      mulf_apply, broadcastTo_apply _ _ _ (ix3 (fst c) 0 s) (by intro a; fin_cases a <;> rfl),
      broadcastTo_apply _ _ _ (ix3 0 (snd c) s) (by intro a; fin_cases a <;> rfl),
      shapeCast_apply _ _ _ (ix2 (fst c) s) (by rw [Shape.rowMajor_val_three, Shape.rowMajor_val_two]; simp [ix2, ix3]),
      shapeCast_apply _ _ _ (ix2 (snd c) s) (by rw [Shape.rowMajor_val_three, Shape.rowMajor_val_two]; simp [ix2, ix3]), ha, hb, EReal.coe_mul]
  refine Eq.trans (congrArg₂ (· * ·) (Ideal.matmul_plain_apply none _ _ _ k s)
    (recip_rows (K := 1024) _ v hexp reduces_S32x1024_S32 (.inl rfl) rfl k s)) ?_
  rw [constant_apply, Ideal.ofBits_zero_f32, zero_add]
  refine Eq.trans (congrArg (· * _) (Finset.sum_congr rfl fun c _ => (congrArg₂ (· * ·) (hexp k c) (hprod c)))) ?_
  simp only [← EReal.coe_mul, ← coe_sum]
  refine congrArg _ ?_
  rw [mixed, Finset.sum_mul]
  exact Finset.sum_congr rfl fun c _ => by rw [soft]; ring

/-- A column's largest entry is one of its entries. -/
theorem colMax_real (d : FVec Ideal S32x512 .f32) (D : Fin 32 → Fin 512 → ℝ) (hd : ∀ k s, d (ix2 k s) = (D k s : EReal)) (s : Fin 512) :
    ∃ k, colMax d (ix2 0 s) = (D k s : EReal) := by
  obtain ⟨k, hk⟩ := fold_max_coe fun k => D k s
  refine ⟨k, ?_⟩
  rw [colMax, shapeCast_apply _ _ _ (ix1 s) (by rw [Shape.rowMajor_val_one, Shape.rowMajor_val_two]; simp [ix1, ix2]), ← hk]
  refine (Ideal.multiReduction_maximumf_single _ _ _ _ _ _).trans ?_
  refine congrArg₂ (fun z f => (Finset.univ : Finset (Fin 32)).fold max z f) least_f32 (funext fun i => ?_)
  rw [← hd i s]
  exact congrArg d (funext fun a => Fin.ext (by fin_cases a <;> rfl))

/-- A block divided by its columns' largest entries. -/
theorem scaled_real (d : FVec Ideal S32x512 .f32) (D : Fin 32 → Fin 512 → ℝ) (hd : ∀ k s, d (ix2 k s) = (D k s : EReal))
    (k : Fin 32) (s : Fin 512) (u : ℝ) (hu : u ≠ 0) (hmax : colMax d (ix2 0 s) = (u : EReal)) :
    scaled d (ix2 k s) = ((D k s * (1 / u) : ℝ) : EReal) := by
  have hr : divf (broadcast S1x512 (Scalar.ofBits (F := Ideal) .f32 0x3F800000#32)) (colMax d) (ix2 0 s) = ((1 / u : ℝ) : EReal) := by
    rw [recip_at, hmax, div_coe_coe 1 hu]
  rw [scaled, truncf_apply, mulf_apply, broadcastTo_apply _ _ _ (ix2 0 s) (by intro a; fin_cases a <;> rfl), hr, hd, EReal.coe_mul]

theorem logMax_real (a b : FVec Ideal S32x512 .f32) (s : Fin 512) (u v : ℝ) (hu : 0 < u) (hv : 0 < v)
    (ha : colMax a (ix2 0 s) = (u : EReal)) (hb : colMax b (ix2 0 s) = (v : EReal)) :
    logMax a b (ix2 0 s) = ((Real.log (u * v) : ℝ) : EReal) := by
  rw [logMax, log_mul_at, ha, hb, ← EReal.coe_mul, log_coe_pos (mul_pos hu hv)]

/-- `d` is the circuit's values `X` scaled, sample by sample, by `exp (-M)`. -/
def Holds (d : FVec Ideal S32x512 .f32) (X : Fin 32 → Fin 512 → ℝ) (M : Fin 512 → ℝ) : Prop :=
  ∀ k s, d (ix2 k s) = ((X k s * Real.exp (-M s) : ℝ) : EReal)

/-- One region from its two children: the scaled values, and the logarithm that makes up for the scaling. -/
theorem up (a b : FVec Ideal S32x512 .f32) (w : Vec Ideal S1x32x1024 .f32) (A B : Fin 32 → Fin 512 → ℝ) (Ma Mb : Fin 512 → ℝ)
    (v : Fin 32 → Fin 1024 → ℝ) (hA : ∀ k s, 0 < A k s) (hB : ∀ k s, 0 < B k s) (ha : Holds a A Ma) (hb : Holds b B Mb)
    (hw : ∀ k c, w (ix3 0 k c) = (v k c : EReal)) :
    ∃ L : Fin 512 → ℝ, (∀ s, logMax a b (ix2 0 s) = (L s : EReal)) ∧
      Holds (mix (scaled a) (scaled b) w) (fun k s => mixed (v k) (fun i => A i s) (fun i => B i s)) (fun s => L s + (Ma s + Mb s)) := by
  choose ka hka using fun s => colMax_real a _ ha s
  choose kb hkb using fun s => colMax_real b _ hb s
  have pa : ∀ s, 0 < A (ka s) s * Real.exp (-Ma s) := fun s => mul_pos (hA _ _) (Real.exp_pos _)
  have pb : ∀ s, 0 < B (kb s) s * Real.exp (-Mb s) := fun s => mul_pos (hB _ _) (Real.exp_pos _)
  refine ⟨fun s => Real.log ((A (ka s) s * Real.exp (-Ma s)) * (B (kb s) s * Real.exp (-Mb s))),
    fun s => logMax_real a b s _ _ (pa s) (pb s) (hka s) (hkb s), fun k s => ?_⟩
  rw [mix_real (scaled a) (scaled b) w _ _ v (fun k s => scaled_real a _ ha k s _ (pa s).ne' (hka s))
    (fun k s => scaled_real b _ hb k s _ (pb s).ne' (hkb s)) hw k s]
  refine congrArg _ ?_
  simp only [mul_assoc (A _ _), mul_assoc (B _ _)]
  rw [mixed_mul]
  refine congrArg (mixed _ _ _ * ·) ?_
  rw [neg_add, Real.exp_add, Real.exp_neg (Real.log _), Real.exp_log (by simpa only [mul_assoc] using mul_pos (pa s) (pb s)), neg_add, Real.exp_add]
  have := (hA (ka s) s).ne'; have := (hB (kb s) s).ne'
  have := (Real.exp_pos (-Ma s)).ne'; have := (Real.exp_pos (-Mb s)).ne'
  field_simp

/-- The root block. -/
theorem root_real (d : FVec Ideal S32x512 .f32) (m : FVec Ideal S1x512 .f32) (wr : Vec Ideal S32x1 .f32) (X : Fin 32 → Fin 512 → ℝ)
    (M : Fin 512 → ℝ) (w : Fin 32 → ℝ) (hX : ∀ k s, 0 < X k s) (hd : Holds d X M) (hm : ∀ s, m (ix2 0 s) = (M s : EReal))
    (hw : ∀ k, wr (ix2 k 0) = (w k : EReal)) (s : Fin 512) :
    root d m wr (ix2 0 s) = ((answer w (fun k => X k s) : ℝ) : EReal) := by
  have he : ∀ k, k0_pay342 wr (ix2 k 0) = ((Real.exp (w k) : ℝ) : EReal) := fun k => by
    show Ideal.exp (shapeCast S32x1 wr shapeCasts_S32x1_S32x1 (ix2 k 0)) = _
    rw [shapeCast_self, hw, Ideal.exp_coe]
  have htot : k0_pay344 wr = ((∑ k, Real.exp (w k) : ℝ) : EReal) := by
    show shapeCast S1x1x1 (multiReduction .add [1, 2] S1 (shapeCast S1x32x1 (k0_pay342 wr) shapeCasts_S32x1_S1x32x1) 0x00000000#32
      reduces_S1x32x1_S1 (.inl rfl) rfl) shapeCasts_S1_S1x1x1 _ = _
    rw [shapeCast_apply _ _ _ (ix1 0) (by rw [Shape.rowMajor_val_one, Shape.rowMajor_val_three]; rfl), coe_sum]
    refine (Ideal.multiReduction_add_total _ _ _ (by intro b; fin_cases b; rfl) _ _ _).trans ?_
    refine (Fintype.sum_equiv (⟨fun k => ix3 0 k 0, fun i => i 1, fun k => rfl, fun i => ?_⟩ : Fin 32 ≃ S1x32x1.Idx) _ _ fun k => ?_).symm
    · refine funext fun a => Fin.ext ?_
      have h0 := (i 0).isLt; have h2 := (i 2).isLt
      fin_cases a
      · exact (Nat.lt_one_iff.1 h0).symm
      · rfl
      · exact (Nat.lt_one_iff.1 h2).symm
    · rw [← he k]
      exact (shapeCast_apply _ _ _ (ix2 k 0) (by
        rw [Shape.rowMajor_val_two, Shape.rowMajor_val_three]
        show k.val * 1 + 0 = (0 * 32 + k.val) * 1 + 0
        omega)).symm
  have hsum : shapeCast S1x512 (multiReduction .add [0] S512 (mulf d (broadcastTo S32x512 (k0_pay342 wr) broadcasts_S32x1_S32x512)) 0x00000000#32
      reduces_S32x512_S512 (.inl rfl) rfl) shapeCasts_S512_S1x512 (ix2 0 s) = ((∑ k, X k s * Real.exp (-M s) * Real.exp (w k) : ℝ) : EReal) := by
    rw [shapeCast_apply _ _ _ (ix1 s) (by rw [Shape.rowMajor_val_one, Shape.rowMajor_val_two]; simp [ix1, ix2]), coe_sum]
    refine (Ideal.multiReduction_add_single _ _ _ _ _ _).trans ?_
    refine Finset.sum_congr rfl fun (k : Fin 32) _ => ?_
    have hl : reduces_S32x512_S512.lift (ix1 s) k = ix2 k s := funext fun a => Fin.ext (by fin_cases a <;> rfl)
    rw [EReal.coe_mul, ← he k, ← hd k s, hl, mulf_apply, broadcastTo_apply _ _ _ (ix2 k 0) (by intro a; fin_cases a <;> rfl)]
  have hpos : 0 < ∑ k, X k s * Real.exp (w k) := Finset.sum_pos (fun k _ => mul_pos (hX k s) (Real.exp_pos _)) Finset.univ_nonempty
  have hfac : ∑ k, X k s * Real.exp (-M s) * Real.exp (w k) = (∑ k, X k s * Real.exp (w k)) * Real.exp (-M s) := by
    rw [Finset.sum_mul]; exact Finset.sum_congr rfl fun k _ => by ring
  refine Eq.trans (congrArg₂ (fun p q => Ideal.log p + m (ix2 0 s) - Ideal.log q) hsum htot) ?_
  rw [hfac, log_coe_pos (mul_pos hpos (Real.exp_pos _)), log_coe_pos (total_pos w), hm, ← EReal.coe_add, ← EReal.coe_sub]
  refine congrArg _ ?_
  have h2 : ∑ k, soft w k * X k s = (∑ k, X k s * Real.exp (w k)) / ∑ k, Real.exp (w k) := by
    rw [Finset.sum_div]; exact Finset.sum_congr rfl fun k _ => by rw [soft]; ring
  rw [answer, h2, Real.log_div hpos.ne' (total_pos w).ne', Real.log_mul hpos.ne' (Real.exp_pos _).ne', Real.log_exp]
  ring

end Cert.KernelIdeal.Tree
-- ==== Proof.KValue.lean ====
/- The kernel's circuit on arrays of real numbers: the log likelihood of every sample. -/
module

public import proofs.«01_k».proof.Proof.KBlocks

@[expose] public section

noncomputable section

namespace Cert.Circuit

/-- The circuit's value: six levels over the leaves, and the root. -/
def logLik (t : Fin 64 → Fin 32 → Fin 256 → ℝ) (x : Fin 512 → Fin 64 → Fin 256) (w1 : Fin 32 → Fin 32 → Fin 1024 → ℝ)
    (w2 : Fin 16 → Fin 32 → Fin 1024 → ℝ) (w3 : Fin 8 → Fin 32 → Fin 1024 → ℝ) (w4 : Fin 4 → Fin 32 → Fin 1024 → ℝ)
    (w5 : Fin 2 → Fin 32 → Fin 1024 → ℝ) (w6 : Fin 1 → Fin 32 → Fin 1024 → ℝ) (wr : Fin 32 → ℝ) (s : Fin 512) : ℝ :=
  answer wr fun k => level rfl w6 (level rfl w5 (level rfl w4 (level rfl w3 (level rfl w2 (level rfl w1 (leaf t x)))))) 0 k s

end Cert.Circuit

namespace Cert.KernelIdeal.Tree

open Idealize.ShloMosaic Idealize.ShloMosaic.ValueIdx Idealize.ShloMosaic.TcCoe
open Cert.KernelIdeal.Gen Cert.Circuit

/-- A level's blocks `D` and logarithms `m` together hold the circuit's values `X`. -/
def Good {n : Nat} (D : Fin n → FVec Ideal S32x512 .f32) (m : Fin n → FVec Ideal S1x512 .f32) (X : Fin n → Fin 32 → Fin 512 → ℝ) : Prop :=
  ∃ M : Fin n → Fin 512 → ℝ, (∀ r s, m r (ix2 0 s) = (M r s : EReal)) ∧ ∀ r, Holds (D r) (X r) (M r)

theorem good_up {n N : Nat} (h : 2 * n = N) (D : Fin N → FVec Ideal S32x512 .f32) (m : Fin N → FVec Ideal S1x512 .f32)
    (X : Fin N → Fin 32 → Fin 512 → ℝ) (W : Fin n → Vec Ideal S1x32x1024 .f32) (w : Fin n → Fin 32 → Fin 1024 → ℝ)
    (hX : ∀ r k s, 0 < X r k s) (hW : ∀ r k c, W r (ix3 0 k c) = (w r k c : EReal)) (hD : Good D m X) :
    Good (fun r => mix (scaled (D (lo h r))) (scaled (D (hi h r))) (W r))
      (fun r => addf (logMax (D (lo h r)) (D (hi h r))) (addf (m (lo h r)) (m (hi h r)))) (level h w X) := by
  obtain ⟨M, hm, hD⟩ := hD
  choose L hL hup using fun r => up (D (lo h r)) (D (hi h r)) (W r) _ _ _ _ (w r) (hX _) (hX _) (hD _) (hD _) (hW r)
  refine ⟨fun r s => L r s + (M (lo h r) s + M (hi h r) s), fun r s => ?_, hup⟩
  beta_reduce
  rw [addf_apply, addf_apply, hL, hm, hm, EReal.coe_add, EReal.coe_add]

/-- The lowest two levels, where nothing has been scaled yet. -/
theorem good_two {n N : Nat} (h : 2 * n = N) (D : Fin N → FVec Ideal S32x512 .f32) (X : Fin N → Fin 32 → Fin 512 → ℝ)
    (W : Fin n → Vec Ideal S1x32x1024 .f32) (w : Fin n → Fin 32 → Fin 1024 → ℝ) (hX : ∀ r k s, 0 < X r k s)
    (hW : ∀ r k c, W r (ix3 0 k c) = (w r k c : EReal)) (hD : ∀ r k s, D r (ix2 k s) = (X r k s : EReal)) :
    Good (fun r => mix (scaled (D (lo h r))) (scaled (D (hi h r))) (W r)) (fun r => logMax (D (lo h r)) (D (hi h r))) (level h w X) := by
  have h0 : ∀ r, Holds (D r) (X r) (fun _ => 0) := fun r k s => by rw [hD, neg_zero, Real.exp_zero, mul_one]
  choose L hL hup using fun r => up (D (lo h r)) (D (hi h r)) (W r) _ _ _ _ (w r) (hX _) (hX _) (h0 _) (h0 _) (hW r)
  refine ⟨L, hL, fun r => ?_⟩
  have := hup r
  simp only [add_zero] at this
  exact this

theorem out_real (I : Fin 64 → Vec Ideal S1x512 .i32) (T : Fin 64 → Vec Ideal S1x32x256 .f32)
    (W1 : Fin 32 → Vec Ideal S1x32x1024 .f32) (W2 : Fin 16 → Vec Ideal S1x32x1024 .f32) (W3 : Fin 8 → Vec Ideal S1x32x1024 .f32)
    (W4 : Fin 4 → Vec Ideal S1x32x1024 .f32) (W5 : Fin 2 → Vec Ideal S1x32x1024 .f32) (W6 : Fin 1 → Vec Ideal S1x32x1024 .f32)
    (WR : Vec Ideal S32x1 .f32)
    (t : Fin 64 → Fin 32 → Fin 256 → ℝ) (x : Fin 512 → Fin 64 → Fin 256) (w1 : Fin 32 → Fin 32 → Fin 1024 → ℝ)
    (w2 : Fin 16 → Fin 32 → Fin 1024 → ℝ) (w3 : Fin 8 → Fin 32 → Fin 1024 → ℝ) (w4 : Fin 4 → Fin 32 → Fin 1024 → ℝ)
    (w5 : Fin 2 → Fin 32 → Fin 1024 → ℝ) (w6 : Fin 1 → Fin 32 → Fin 1024 → ℝ) (wr : Fin 32 → ℝ)
    (hI : ∀ v s, I v (ix2 0 s) = BitVec.ofNat 32 (x s v).val) (hT : ∀ v k c, T v (ix3 0 k c) = (t v k c : EReal))
    (h1 : ∀ r k c, W1 r (ix3 0 k c) = (w1 r k c : EReal)) (h2 : ∀ r k c, W2 r (ix3 0 k c) = (w2 r k c : EReal))
    (h3 : ∀ r k c, W3 r (ix3 0 k c) = (w3 r k c : EReal)) (h4 : ∀ r k c, W4 r (ix3 0 k c) = (w4 r k c : EReal))
    (h5 : ∀ r k c, W5 r (ix3 0 k c) = (w5 r k c : EReal)) (h6 : ∀ r k c, W6 r (ix3 0 k c) = (w6 r k c : EReal))
    (hr : ∀ k, WR (ix2 k 0) = (wr k : EReal)) (s : Fin 512) :
    out I T W1 W2 W3 W4 W5 W6 WR (ix2 0 s) = ((logLik t x w1 w2 w3 w4 w5 w6 wr s : ℝ) : EReal) := by
  have p0 := leaf_pos t x
  have p1 := level_pos (n := 32) rfl w1 _ p0
  have p2 := level_pos (n := 16) rfl w2 _ p1
  have p3 := level_pos (n := 8) rfl w3 _ p2
  have p4 := level_pos (n := 4) rfl w4 _ p3
  have p5 := level_pos (n := 2) rfl w5 _ p4
  have p6 := level_pos (n := 1) rfl w6 _ p5
  have e0 : ∀ v k s, leafs I T v (ix2 k s) = (leaf t x v k s : EReal) := fun v k s =>
    leafs_real (T v) (I v) (t v) (fun s => x s v) (hT v) (hI v) k s
  have e1 : ∀ r k s, d1 I T W1 r (ix2 k s) = (level (n := 32) rfl w1 (leaf t x) r k s : EReal) := fun r k s =>
    mix_real _ _ (W1 r) _ _ (w1 r) (e0 _) (e0 _) (h1 r) k s
  have g2 := good_two (n := 16) rfl (d1 I T W1) _ W2 w2 p1 h2 e1
  have g3 := good_up (n := 8) rfl (d2 I T W1 W2) (m2 I T W1) _ W3 w3 p2 h3 g2
  have g4 := good_up (n := 4) rfl (d3 I T W1 W2 W3) (m3 I T W1 W2) _ W4 w4 p3 h4 g3
  have g5 := good_up (n := 2) rfl (d4 I T W1 W2 W3 W4) (m4 I T W1 W2 W3) _ W5 w5 p4 h5 g4
  obtain ⟨M, hm, hd⟩ := good_up (n := 1) rfl (d5 I T W1 W2 W3 W4 W5) (m5 I T W1 W2 W3 W4) _ W6 w6 p5 h6 g5
  exact root_real _ _ WR _ _ wr (p6 0) (hd 0) (hm 0) hr s

end Cert.KernelIdeal.Tree
-- ==== Proof.KResult.lean ====
/- The kernel's result on arrays of real numbers and categories: the circuit's log likelihoods. -/
module

public import proofs.«01_k».proof.Proof.KRun
public import proofs.«01_k».proof.Proof.KValue

@[expose] public section

noncomputable section

namespace Cert.KernelIdeal.Tree

open Idealize.ShloMosaic Idealize.ShloMosaic.ValueIdx Idealize.ShloMosaic.TcCoe
open Cert.KernelIdeal.Gen Cert.Circuit

/-- One region's weights out of a level's table. -/
theorem row_real {n : Nat} (X : FVec Ideal ⟨3, ![n, 32, 1024]⟩ .f32) (w : Fin n → Fin 32 → Fin 1024 → ℝ)
    (h : ∀ r k c, X (ix3 r k c) = (w r k c : EReal)) (r : Fin n) (k : Fin 32) (c : Fin 1024) :
    View.ld (Val := Elt Ideal) (e' := .f32) X (rowW r) (ix3 0 k c) = (w r k c : EReal) :=
  (congrArg X (funext fun a => Fin.ext (by
    match a with
    | ⟨0, _⟩ => show r.val + 1 * 0 = r.val; omega
    | ⟨1, _⟩ => show 0 + 1 * k.val = k.val; omega
    | ⟨2, _⟩ => show 0 + 1 * c.val = c.val; omega))).trans (h r k c)

theorem result_real (X : Vec Ideal S512x64 .i32) (T : Vec Ideal S64x32x256 .f32) (W1 : Vec Ideal S32x32x1024 .f32)
    (W2 : Vec Ideal S16x32x1024 .f32) (W3 : Vec Ideal S8x32x1024 .f32) (W4 : Vec Ideal S4x32x1024 .f32) (W5 : Vec Ideal S2x32x1024 .f32)
    (W6 : Vec Ideal S1x32x1024 .f32) (WR : Vec Ideal S32 .f32)
    (t : Fin 64 → Fin 32 → Fin 256 → ℝ) (x : Fin 512 → Fin 64 → Fin 256) (w1 : Fin 32 → Fin 32 → Fin 1024 → ℝ)
    (w2 : Fin 16 → Fin 32 → Fin 1024 → ℝ) (w3 : Fin 8 → Fin 32 → Fin 1024 → ℝ) (w4 : Fin 4 → Fin 32 → Fin 1024 → ℝ)
    (w5 : Fin 2 → Fin 32 → Fin 1024 → ℝ) (w6 : Fin 1 → Fin 32 → Fin 1024 → ℝ) (wr : Fin 32 → ℝ)
    (hX : ∀ s v, X (ix2 s v) = BitVec.ofNat 32 (x s v).val) (hT : ∀ v k c, T (ix3 v k c) = (t v k c : EReal))
    (h1 : ∀ r k c, W1 (ix3 r k c) = (w1 r k c : EReal)) (h2 : ∀ r k c, W2 (ix3 r k c) = (w2 r k c : EReal))
    (h3 : ∀ r k c, W3 (ix3 r k c) = (w3 r k c : EReal)) (h4 : ∀ r k c, W4 (ix3 r k c) = (w4 r k c : EReal))
    (h5 : ∀ r k c, W5 (ix3 r k c) = (w5 r k c : EReal)) (h6 : ∀ r k c, W6 (ix3 r k c) = (w6 r k c : EReal))
    (hr : ∀ k, WR (ix1 k) = (wr k : EReal)) (s : Fin 512) :
    resultOf X T W1 W2 W3 W4 W5 W6 WR (ix2 s 0) = ((logLik t x w1 w2 w3 w4 w5 w6 wr s : ℝ) : EReal) := by
  rw [resultOf, shapeCast_apply _ _ _ (ix2 0 s) (by rw [Shape.rowMajor_val_two, Shape.rowMajor_val_two]; simp [ix2])]
  refine out_real _ _ _ _ _ _ _ _ _ t x w1 w2 w3 w4 w5 w6 wr (fun v s => ?_) (fun v k c => ?_) (row_real W1 w1 h1) (row_real W2 w2 h2)
    (row_real W3 w3 h3) (row_real W4 w4 h4) (row_real W5 w5 h5) (row_real W6 w6 h6) (fun k => ?_) s
  · refine (transpose_apply _ X _ _ (ix2 s v) (by
      intro a
      match a with
      | ⟨0, _⟩ => show v.val = v.val + 1 * 0; omega
      | ⟨1, _⟩ => show s.val = 0 + 1 * s.val; omega)).trans (hX s v)
  · exact (congrArg T (funext fun a => Fin.ext (by
      match a with
      | ⟨0, _⟩ => show v.val + 1 * 0 = v.val; omega
      | ⟨1, _⟩ => show 0 + 1 * k.val = k.val; omega
      | ⟨2, _⟩ => show 0 + 1 * c.val = c.val; omega))).trans (hT v k c)
  · rw [broadcastInDim_apply _ _ _ _ (ix1 k) (by intro a; fin_cases a; rfl), hr]

end Cert.KernelIdeal.Tree
-- ==== Proof.RBlocks.lean ====
/- The reference's blocks on arrays of real numbers: what each computes, entry by entry, for any number of regions. -/
module

public import proofs.«01_k».proof.Proof.Maths
public import Idealize.ShloMosaic.Lib.IdealHost
public import Idealize.ShloMosaic.Lib.Pipeline.Value

@[expose] public section

noncomputable section

namespace Cert.Circuit.Blocks

open Idealize.ShloMosaic Idealize.ShloMosaic.ValueIdx Cert.Circuit

abbrev Unit0 : Shape := ⟨0, ![]⟩

theorem least_at (j : Unit0.Idx) : constant (F := Ideal) Unit0 .f32 0xFF800000#32 j = (⊥ : EReal) := least_f32

theorem zero_at (j : Unit0.Idx) : constant (F := Ideal) Unit0 .f32 0x00000000#32 j = (0 : EReal) := Ideal.ofBits_zero_f32

theorem exp_at {s : Shape} (x : FVec Ideal s .f32) (i : s.Idx) : Host.exp x i = Ideal.exp (x i) := rfl

theorem log_at {s : Shape} (x : FVec Ideal s .f32) (i : s.Idx) : Host.log x i = Ideal.log (x i) := rfl

/-- A coordinate kept by a broadcast. -/
theorem own {n : Nat} (r : Fin n) : r.val = if n = 1 then 0 else r.val := by split <;> omega

section Rows
variable {R A B : Nat} (W : FVec Ideal ⟨3, ![R, A, B]⟩ .f32) (w : Fin R → Fin A → Fin B → ℝ)
  (hW : ∀ r k c, W (ix3 r k c) = (w r k c : EReal))
  (b1 : Shape.BroadcastsInDim ⟨3, ![R, A, 1]⟩ ⟨3, ![R, A, B]⟩ ![0, 1, 2]) (b2 : Shape.BroadcastsInDim ⟨2, ![R, A]⟩ ⟨3, ![R, A, 1]⟩ ![0, 1])
  (b3 : Unit0.BroadcastsInDim ⟨2, ![R, A]⟩ ![]) (hr : Shape.ReducesTo ⟨3, ![R, A, B]⟩ [2] ⟨2, ![R, A]⟩) (hu : 0 < Unit0.numel)

theorem lift_row (h : Shape.Reduces ⟨3, ![R, A, B]⟩ [2] ⟨2, ![R, A]⟩) (r : Fin R) (k : Fin A) (c : Fin B) :
    h.lift (ix2 r k) c = ix3 r k c := funext fun a => Fin.ext (by
  match a with
  | ⟨0, _⟩ => rfl
  | ⟨1, _⟩ => rfl
  | ⟨2, _⟩ => rfl)

theorem spread_row {α : Type} (x : Shape.Idx ⟨3, ![R, A, 1]⟩ → α) (r : Fin R) (k : Fin A) (c : Fin B) :
    broadcastInDim ⟨3, ![R, A, B]⟩ ![0, 1, 2] b1 x (ix3 r k c) = x (ix3 r k 0) :=
  broadcastInDim_apply _ _ _ _ _ (by
    intro a
    match a with
    | ⟨0, _⟩ => exact own r
    | ⟨1, _⟩ => exact own k
    | ⟨2, _⟩ => rfl)

theorem column_row {α : Type} (x : Shape.Idx ⟨2, ![R, A]⟩ → α) (r : Fin R) (k : Fin A) :
    broadcastInDim ⟨3, ![R, A, 1]⟩ ![0, 1] b2 x (ix3 r k 0) = x (ix2 r k) :=
  broadcastInDim_apply _ _ _ _ _ (by
    intro a
    match a with
    | ⟨0, _⟩ => exact own r
    | ⟨1, _⟩ => exact own k)

include hW in
/-- A row's scores less a number of that row. -/
theorem shift_real [NeZero B] : ∃ μ : Fin R → Fin A → ℝ, ∀ r k c,
    subf W (broadcastInDim ⟨3, ![R, A, B]⟩ ![0, 1, 2] b1 (broadcastInDim ⟨3, ![R, A, 1]⟩ ![0, 1] b2
      (maximumf (broadcastInDim ⟨2, ![R, A]⟩ ![] b3 (constant Unit0 .f32 0xFF800000#32))
        (Host.reduce FloatOps.maximumf W (constant Unit0 .f32 0xFF800000#32) hr hu)))) (ix3 r k c)
      = ((w r k c - μ r k : ℝ) : EReal) := by
  have key : ∀ r k, ∃ c, Host.reduce FloatOps.maximumf W (constant Unit0 .f32 0xFF800000#32) hr hu (ix2 r k) = (w r k c : EReal) := fun r k => by
    obtain ⟨c, hc⟩ := fold_max_coe (w r k)
    refine ⟨c, ?_⟩
    have h : Shape.Reduces ⟨3, ![R, A, B]⟩ [2] ⟨2, ![R, A]⟩ := ⟨hr.1, Nat.two_pos, hr.2⟩
    have e : W ∘ h.lift (ix2 r k) = fun c => (w r k c : EReal) := funext fun c => (congrArg W (lift_row h r k c)).trans (hW r k c)
    rw [Host.reduce_eq_fold_single _ _ _ hr h, e, least_at]
    exact hc
  choose m hm using key
  refine ⟨fun r k => w r k (m r k), fun r k c => ?_⟩
  rw [subf_apply, spread_row, column_row, maximumf_apply, broadcastInDim_scalar_apply, least_at, hm, hW, bot_sup_eq, ← EReal.coe_sub]

include hW in
/-- A row's total. -/
theorem total_real (r : Fin R) (k : Fin A) :
    Host.reduceAdd W (constant Unit0 .f32 0x00000000#32) hr hu (ix2 r k) = ((∑ c, w r k c : ℝ) : EReal) := by
  have h : Shape.Reduces ⟨3, ![R, A, B]⟩ [2] ⟨2, ![R, A]⟩ := ⟨hr.1, Nat.two_pos, hr.2⟩
  rw [hostReduceAdd_apply, Ideal.hostReduceAdd_single hr h, zero_at, zero_add, coe_sum]
  exact Finset.sum_congr rfl fun c _ => (congrArg W (lift_row h r k c)).trans (hW r k c)

end Rows

section Softmax
variable {R A B : Nat} [NeZero B] (D : FVec Ideal ⟨3, ![R, A, B]⟩ .f32) (w : Fin R → Fin A → Fin B → ℝ) (μ : Fin R → Fin A → ℝ)
  (hD : ∀ r k c, D (ix3 r k c) = ((w r k c - μ r k : ℝ) : EReal))
  (b1 : Shape.BroadcastsInDim ⟨3, ![R, A, 1]⟩ ⟨3, ![R, A, B]⟩ ![0, 1, 2]) (b2 : Shape.BroadcastsInDim ⟨2, ![R, A]⟩ ⟨3, ![R, A, 1]⟩ ![0, 1])
  (hr : Shape.ReducesTo ⟨3, ![R, A, B]⟩ [2] ⟨2, ![R, A]⟩) (hu : 0 < Unit0.numel)

include hD

theorem exp_real (r : Fin R) (k : Fin A) (c : Fin B) : Host.exp D (ix3 r k c) = ((Real.exp (w r k c - μ r k) : ℝ) : EReal) := by
  rw [exp_at, hD, Ideal.exp_coe]

/-- The softmax of each row. -/
theorem soft_real (r : Fin R) (k : Fin A) (c : Fin B) :
    Host.divf (Host.exp D) (broadcastInDim ⟨3, ![R, A, B]⟩ ![0, 1, 2] b1 (broadcastInDim ⟨3, ![R, A, 1]⟩ ![0, 1] b2
      (Host.reduceAdd (Host.exp D) (constant Unit0 .f32 0x00000000#32) hr hu))) (ix3 r k c) = ((soft (w r k) c : ℝ) : EReal) := by
  rw [hostDivf_apply, spread_row, column_row, total_real _ _ (exp_real D w μ hD), exp_real D w μ hD,
    div_coe_coe _ (total_pos fun c => w r k c - μ r k).ne', soft_shift]

/-- The logarithm of the softmax of each row. -/
theorem logSoft_real (r : Fin R) (k : Fin A) (c : Fin B) :
    subf D (broadcastInDim ⟨3, ![R, A, B]⟩ ![0, 1, 2] b1 (Host.log (broadcastInDim ⟨3, ![R, A, 1]⟩ ![0, 1] b2
      (Host.reduceAdd (Host.exp D) (constant Unit0 .f32 0x00000000#32) hr hu)))) (ix3 r k c) = ((Real.log (soft (w r k) c) : ℝ) : EReal) := by
  rw [subf_apply, spread_row, log_at, column_row, total_real _ _ (exp_real D w μ hD), hD,
    log_coe_pos (total_pos fun c => w r k c - μ r k), ← EReal.coe_sub, log_soft_shift]

end Softmax

section Level
variable {R N : Nat} (hRN : 2 * R = N)

/-- The two children's log densities added, every unit of the left against every unit of the right. -/
theorem pairs_real (v : FVec Ideal ⟨3, ![N, 32, 512]⟩ .f32) (x : Fin N → Fin 32 → Fin 512 → ℝ) (hv : ∀ r k b, v (ix3 r k b) = (x r k b : EReal))
    (s0 : Shape.SlicesBy ⟨3, ![N, 32, 512]⟩ ![0, 0, 0] ![2, 1, 1] ⟨3, ![R, 32, 512]⟩)
    (s1 : Shape.SlicesBy ⟨3, ![N, 32, 512]⟩ ![1, 0, 0] ![2, 1, 1] ⟨3, ![R, 32, 512]⟩)
    (a1 : Shape.BroadcastsInDim ⟨4, ![R, 32, 1, 512]⟩ ⟨4, ![R, 32, 32, 512]⟩ ![0, 1, 2, 3])
    (a2 : Shape.BroadcastsInDim ⟨3, ![R, 32, 512]⟩ ⟨4, ![R, 32, 1, 512]⟩ ![0, 1, 3])
    (c1 : Shape.BroadcastsInDim ⟨4, ![R, 1, 32, 512]⟩ ⟨4, ![R, 32, 32, 512]⟩ ![0, 1, 2, 3])
    (c2 : Shape.BroadcastsInDim ⟨3, ![R, 32, 512]⟩ ⟨4, ![R, 1, 32, 512]⟩ ![0, 2, 3])
    (sc : Shape.ShapeCasts ⟨4, ![R, 32, 32, 512]⟩ ⟨3, ![R, 1024, 512]⟩)
    (r : Fin R) (c : Fin 1024) (b : Fin 512) :
    shapeCast ⟨3, ![R, 1024, 512]⟩ (addf
        (broadcastInDim ⟨4, ![R, 32, 32, 512]⟩ ![0, 1, 2, 3] a1 (broadcastInDim ⟨4, ![R, 32, 1, 512]⟩ ![0, 1, 3] a2
          (Host.slice ⟨3, ![R, 32, 512]⟩ ![0, 0, 0] ![2, 1, 1] v s0)))
        (broadcastInDim ⟨4, ![R, 32, 32, 512]⟩ ![0, 1, 2, 3] c1 (broadcastInDim ⟨4, ![R, 1, 32, 512]⟩ ![0, 2, 3] c2
          (Host.slice ⟨3, ![R, 32, 512]⟩ ![1, 0, 0] ![2, 1, 1] v s1)))) sc (ix3 r c b)
      = ((x (lo hRN r) (fst c) b + x (hi hRN r) (snd c) b : ℝ) : EReal) := by
  rw [shapeCast_apply _ _ _ (ix4 r (fst c) (snd c) b) (by
    rw [Shape.rowMajor_val_four, Shape.rowMajor_val_three]
    show ((r.val * 32 + c.val / 32) * 32 + c.val % 32) * 512 + b.val = (r.val * 1024 + c.val) * 512 + b.val
    omega)]
  rw [addf_apply,
    broadcastInDim_apply _ _ _ _ (ix4 r (fst c) 0 b) (by
      intro a
      match a with
      | ⟨0, _⟩ => exact own r
      | ⟨1, _⟩ => rfl
      | ⟨2, _⟩ => rfl
      | ⟨3, _⟩ => rfl),
    broadcastInDim_apply _ _ _ _ (ix3 r (fst c) b) (by
      intro a
      match a with
      | ⟨0, _⟩ => exact own r
      | ⟨1, _⟩ => rfl
      | ⟨2, _⟩ => rfl),
    broadcastInDim_apply _ _ _ _ (ix4 r 0 (snd c) b) (by
      intro a
      match a with
      | ⟨0, _⟩ => exact own r
      | ⟨1, _⟩ => rfl
      | ⟨2, _⟩ => rfl
      | ⟨3, _⟩ => rfl),
    broadcastInDim_apply _ _ _ _ (ix3 r (snd c) b) (by
      intro a
      match a with
      | ⟨0, _⟩ => exact own r
      | ⟨1, _⟩ => rfl
      | ⟨2, _⟩ => rfl)]
  have e0 : Host.slice ⟨3, ![R, 32, 512]⟩ ![0, 0, 0] ![2, 1, 1] v s0 (ix3 r (fst c) b) = (x (lo hRN r) (fst c) b : EReal) :=
    (congrArg v (funext fun a => Fin.ext (by
      match a with
      | ⟨0, _⟩ => show 0 + 2 * r.val = 2 * r.val; omega
      | ⟨1, _⟩ => show 0 + 1 * (fst c).val = (fst c).val; omega
      | ⟨2, _⟩ => show 0 + 1 * b.val = b.val; omega))).trans (hv _ _ _)
  have e1 : Host.slice ⟨3, ![R, 32, 512]⟩ ![1, 0, 0] ![2, 1, 1] v s1 (ix3 r (snd c) b) = (x (hi hRN r) (snd c) b : EReal) :=
    (congrArg v (funext fun a => Fin.ext (by
      match a with
      | ⟨0, _⟩ => show 1 + 2 * r.val = 2 * r.val + 1; omega
      | ⟨1, _⟩ => show 0 + 1 * (snd c).val = (snd c).val; omega
      | ⟨2, _⟩ => show 0 + 1 * b.val = b.val; omega))).trans (hv _ _ _)
  rw [e0, e1, ← EReal.coe_add]

/-- The largest entry over the pairs is some real number. -/
theorem peak_real (e : FVec Ideal ⟨3, ![R, 1024, 512]⟩ .f32) (y : Fin R → Fin 1024 → Fin 512 → ℝ)
    (he : ∀ r c b, e (ix3 r c b) = (y r c b : EReal))
    (b1 : Shape.BroadcastsInDim ⟨2, ![R, 512]⟩ ⟨3, ![R, 1, 512]⟩ ![0, 2])
    (hr : Shape.ReducesTo ⟨3, ![R, 1024, 512]⟩ [1] ⟨2, ![R, 512]⟩) (hu : 0 < Unit0.numel) :
    ∃ M : Fin R → Fin 512 → ℝ, ∀ r b, broadcastInDim ⟨3, ![R, 1, 512]⟩ ![0, 2] b1
      (Host.reduce FloatOps.maximumf e (constant Unit0 .f32 0xFF800000#32) hr hu) (ix3 r 0 b) = (M r b : EReal) := by
  have key : ∀ r b, ∃ c, Host.reduce FloatOps.maximumf e (constant Unit0 .f32 0xFF800000#32) hr hu (ix2 r b) = (y r c b : EReal) := fun r b => by
    obtain ⟨c, hc⟩ := fold_max_coe fun c => y r c b
    refine ⟨c, ?_⟩
    have h : Shape.Reduces ⟨3, ![R, 1024, 512]⟩ [1] ⟨2, ![R, 512]⟩ := ⟨hr.1, Nat.two_pos, hr.2⟩
    have hl : e ∘ h.lift (ix2 r b) = fun c => (y r c b : EReal) := funext fun c =>
      (congrArg e (funext fun a => Fin.ext (by
        match a with
        | ⟨0, _⟩ => rfl
        | ⟨1, _⟩ => rfl
        | ⟨2, _⟩ => rfl))).trans (he r c b)
    rw [Host.reduce_eq_fold_single _ _ _ hr h, hl, least_at]
    exact hc
  choose m hm using key
  refine ⟨fun r b => y r (m r b) b, fun r b => ?_⟩
  rw [broadcastInDim_apply _ _ _ _ (ix2 r b) (by
    intro a
    match a with
    | ⟨0, _⟩ => exact own r
    | ⟨1, _⟩ => rfl), hm]

/-- A level's weights against its shifted densities, region by region. -/
abbrev dims (wf : DotDims.WF ⟨3, ![R, 32, 1024]⟩ ⟨3, ![R, 1024, 512]⟩ ⟨3, ![R, 32, 512]⟩ [2] [1] [1] [2] [0] [0]) :
    DotDims ⟨3, ![R, 32, 1024]⟩ ⟨3, ![R, 1024, 512]⟩ ⟨3, ![R, 32, 512]⟩ where
  lhsContracting := [2]
  rhsContracting := [1]
  lhsNonContracting := [1]
  rhsNonContracting := [2]
  lhsBatch := [0]
  rhsBatch := [0]
  wf := wf

theorem dot_real (wf : DotDims.WF ⟨3, ![R, 32, 1024]⟩ ⟨3, ![R, 1024, 512]⟩ ⟨3, ![R, 32, 512]⟩ [2] [1] [1] [2] [0] [0])
    (P : FVec Ideal ⟨3, ![R, 32, 1024]⟩ .f32) (Q : FVec Ideal ⟨3, ![R, 1024, 512]⟩ .f32)
    (p : Fin R → Fin 32 → Fin 1024 → ℝ) (q : Fin R → Fin 1024 → Fin 512 → ℝ)
    (hP : ∀ r k c, P (ix3 r k c) = (p r k c : EReal)) (hQ : ∀ r c b, Q (ix3 r c b) = (q r c b : EReal))
    (r : Fin R) (k : Fin 32) (b : Fin 512) :
    (Host.dotGeneral (dims wf) none P Q : FVec Ideal ⟨3, ![R, 32, 512]⟩ .f32) (ix3 r k b) = ((∑ c, p r k c * q r c b : ℝ) : EReal) := by
  simp only [Host.dotGeneral]
  rw [Ideal.dotGeneral_apply, ← (contrEquiv1 (dims wf) 1024 rfl rfl).symm.sum_comp, coe_sum]
  refine Finset.sum_congr rfl fun c _ => ?_
  rw [EReal.coe_mul, ← hP, ← hQ]
  refine congrArg₂ (· * ·) (congrArg P (funext fun a => Fin.ext ?_)) (congrArg Q (funext fun a => Fin.ext ?_))
  · match a with
    | ⟨0, _⟩ => rfl
    | ⟨1, _⟩ => rfl
    | ⟨2, _⟩ => exact contrEquiv1_symm_val (dims wf) 1024 rfl rfl c
  · match a with
    | ⟨0, _⟩ => rfl
    | ⟨1, _⟩ => exact contrEquiv1_symm_val (dims wf) 1024 rfl rfl c
    | ⟨2, _⟩ => rfl

/-- A level in logarithms: the shift by the largest entry goes out again. -/
theorem level_real (wf : DotDims.WF ⟨3, ![R, 32, 1024]⟩ ⟨3, ![R, 1024, 512]⟩ ⟨3, ![R, 32, 512]⟩ [2] [1] [1] [2] [0] [0])
    (P : FVec Ideal ⟨3, ![R, 32, 1024]⟩ .f32) (e : FVec Ideal ⟨3, ![R, 1024, 512]⟩ .f32) (m : FVec Ideal ⟨3, ![R, 1, 512]⟩ .f32)
    (w : Fin R → Fin 32 → Fin 1024 → ℝ) (X : Fin N → Fin 32 → Fin 512 → ℝ) (hX : ∀ r k b, 0 < X r k b) (M : Fin R → Fin 512 → ℝ)
    (hP : ∀ r k c, P (ix3 r k c) = ((soft (w r k) c : ℝ) : EReal))
    (he : ∀ r c b, e (ix3 r c b) = ((Real.log (X (lo hRN r) (fst c) b) + Real.log (X (hi hRN r) (snd c) b) : ℝ) : EReal))
    (hm : ∀ r b, m (ix3 r 0 b) = (M r b : EReal))
    (b1 : Shape.BroadcastsInDim ⟨3, ![R, 1, 512]⟩ ⟨3, ![R, 1024, 512]⟩ ![0, 1, 2])
    (b2 : Shape.BroadcastsInDim ⟨3, ![R, 1, 512]⟩ ⟨3, ![R, 32, 512]⟩ ![0, 1, 2])
    (r : Fin R) (k : Fin 32) (b : Fin 512) :
    addf (Host.log (Host.dotGeneral (dims wf) none P (Host.exp (subf e (broadcastInDim ⟨3, ![R, 1024, 512]⟩ ![0, 1, 2] b1 m)))))
        (broadcastInDim ⟨3, ![R, 32, 512]⟩ ![0, 1, 2] b2 m) (ix3 r k b)
      = ((Real.log (level hRN w X r k b) : ℝ) : EReal) := by
  have hQ : ∀ r c b, Host.exp (subf e (broadcastInDim ⟨3, ![R, 1024, 512]⟩ ![0, 1, 2] b1 m)) (ix3 r c b)
      = ((X (lo hRN r) (fst c) b * X (hi hRN r) (snd c) b * Real.exp (-M r b) : ℝ) : EReal) := fun r c b => by
    rw [exp_at, subf_apply, he, broadcastInDim_apply _ _ _ _ (ix3 r 0 b) (by
      intro a
      match a with
      | ⟨0, _⟩ => exact own r
      | ⟨1, _⟩ => rfl
      | ⟨2, _⟩ => rfl), hm, ← EReal.coe_sub, Ideal.exp_coe, sub_eq_add_neg, Real.exp_add, Real.exp_add, Real.exp_log (hX _ _ _),
      Real.exp_log (hX _ _ _)]
  have hs : ∑ c, soft (w r k) c * (X (lo hRN r) (fst c) b * X (hi hRN r) (snd c) b * Real.exp (-M r b))
      = level hRN w X r k b * Real.exp (-M r b) := by
    rw [level, mixed, Finset.sum_mul]
    exact Finset.sum_congr rfl fun c _ => by ring
  have hp := level_pos hRN w X hX r k b
  rw [addf_apply, log_at, dot_real wf P _ (fun r k => soft (w r k)) _ hP hQ, hs, log_coe_pos (mul_pos hp (Real.exp_pos _)),
    broadcastInDim_apply _ _ _ _ (ix3 r 0 b) (by
      intro a
      match a with
      | ⟨0, _⟩ => exact own r
      | ⟨1, _⟩ => rfl
      | ⟨2, _⟩ => rfl), hm, ← EReal.coe_add, Real.log_mul hp.ne' (Real.exp_pos _).ne', Real.log_exp, neg_add_cancel_right]

end Level

end Cert.Circuit.Blocks
-- ==== Proof.RRoot.lean ====
/- The reference's two ends on arrays of real numbers: the observed categories looked up in the leaf tables, and the
   root's mixture of the last level. -/
module

public import proofs.«01_k».proof.Proof.RBlocks
public import Idealize.ShloMosaic.Lib.ReduceAll

@[expose] public section

noncomputable section

namespace Cert.Circuit.Blocks

open Idealize.ShloMosaic Idealize.ShloMosaic.ValueIdx Cert.Circuit

/-! ## The leaves -/

/-- A category is a word that is not negative, at most 255, and reads back as itself. -/
theorem word_slt : ∀ n : Fin 256, IntOp.cmpi .slt (BitVec.ofNat 32 n.val) 0#32 = 0#1 := by decide
theorem word_sge : ∀ n : Fin 256, IntOp.cmpi .sge (BitVec.ofNat 32 n.val) 0#32 = 1#1 := by decide
theorem word_sle : ∀ n : Fin 256, IntOp.cmpi .sle (BitVec.ofNat 32 n.val) 255#32 = 1#1 := by decide
theorem word_nat : ∀ n : Fin 256, min (BitVec.ofNat 32 n.val).toInt.toNat 255 = n.val := by decide

abbrev Cube : Shape := ⟨3, ![64, 32, 512]⟩
abbrev Cube1 : Shape := ⟨4, ![64, 32, 512, 1]⟩
abbrev Table : Shape := ⟨3, ![64, 32, 256]⟩

/-- The inputs, one row per variable, repeated for every unit. -/
theorem spread_real {α : Type} (X : Shape.Idx ⟨2, ![512, 64]⟩ → α)
    (b1 : Shape.BroadcastsInDim ⟨3, ![64, 1, 512]⟩ Cube ![0, 1, 2]) (b2 : Shape.BroadcastsInDim ⟨2, ![64, 512]⟩ ⟨3, ![64, 1, 512]⟩ ![0, 2])
    (ht : Shape.Transposes ⟨2, ![512, 64]⟩ [1, 0] ⟨2, ![64, 512]⟩) (v : Fin 64) (k : Fin 32) (b : Fin 512) :
    broadcastInDim Cube ![0, 1, 2] b1 (broadcastInDim ⟨3, ![64, 1, 512]⟩ ![0, 2] b2 (transpose ⟨2, ![64, 512]⟩ [1, 0] X ht)) (ix3 v k b)
      = X (ix2 b v) := by
  rw [broadcastInDim_apply _ _ _ _ (ix3 v 0 b) (by
      intro a
      match a with
      | ⟨0, _⟩ => rfl
      | ⟨1, _⟩ => rfl
      | ⟨2, _⟩ => rfl),
    broadcastInDim_apply _ _ _ _ (ix2 v b) (by
      intro a
      match a with
      | ⟨0, _⟩ => rfl
      | ⟨1, _⟩ => rfl)]
  exact transpose_apply _ X _ _ (ix2 b v) (by
    intro a
    match a with
    | ⟨0, _⟩ => rfl
    | ⟨1, _⟩ => rfl)

/-- An index that is not negative is used as it is. -/
theorem wrap_real (I : IVec Cube 32) (n : Fin 64 → Fin 32 → Fin 512 → Fin 256) (hI : ∀ v k b, I (ix3 v k b) = BitVec.ofNat 32 (n v k b).val)
    (b1 b2 : Unit0.BroadcastsInDim Cube ![]) (sc : Shape.ShapeCasts Cube Cube1) (v : Fin 64) (k : Fin 32) (b : Fin 512) (q : Fin 1) :
    shapeCast Cube1 (select (cmpi .slt I (broadcastInDim Cube ![] b1 (constantI Unit0 32 0#32)))
      (addi I (broadcastInDim Cube ![] b2 (constantI Unit0 32 256#32))) I) sc (ix4 v k b q) = BitVec.ofNat 32 (n v k b).val := by
  rw [shapeCast_apply _ _ _ (ix3 v k b) (by
    rw [Shape.rowMajor_val_three, Shape.rowMajor_val_four]
    show (v.val * 32 + k.val) * 512 + b.val = ((v.val * 32 + k.val) * 512 + b.val) * 1 + q.val
    omega)]
  have h : cmpi .slt I (broadcastInDim Cube ![] b1 (constantI Unit0 32 0#32)) (ix3 v k b) = 0#1 := by
    show IntOp.cmpi .slt (I (ix3 v k b)) 0#32 = 0#1
    rw [hI, word_slt]
  rw [select_apply, h, select_zero, hI]

/-- Looking a category up in each unit's row of a table. -/
abbrev lookup (wf : GatherDims.WF Table Cube1 Cube [] [2] [0, 1] [2] [0, 1] 3 ![1, 1, 1]) : GatherDims Table Cube1 Cube where
  offsetDims := []
  collapsedSliceDims := [2]
  operandBatchingDims := [0, 1]
  startIndicesBatchingDims := [0, 1]
  startIndexMap := [2]
  indexVectorDim := 3
  sliceSizes := ![1, 1, 1]
  wf := wf

theorem lookup_at {α : Type} (wf : GatherDims.WF Table Cube1 Cube [] [2] [0, 1] [2] [0, 1] 3 ![1, 1, 1]) (T : Table.Idx → α) (J : IVec Cube1 32)
    (v : Fin 64) (k : Fin 32) (b : Fin 512) (n : Fin 256) (hJ : J (ix4 v k b 0) = BitVec.ofNat 32 n.val) :
    Host.gather (lookup wf) T J (ix3 v k b) = T (ix3 v k n) := by
  unfold Host.gather
  refine congrArg T (funext fun a => Fin.ext ?_)
  show (lookup wf).start (ix3 v k b) J a + (lookup wf).batchCoord (ix3 v k b) a + (lookup wf).offCoord (ix3 v k b) a = _
  rw [GatherDims.offCoord_eq_zero _ _ _ (fun h => by
    have h' := (GatherDims.mem_sKept _ _).mp h
    match a with
    | ⟨0, _⟩ => exact h'.2 List.mem_cons_self
    | ⟨1, _⟩ => exact h'.2 (List.mem_cons_of_mem _ List.mem_cons_self)
    | ⟨2, _⟩ => exact h'.1 List.mem_cons_self), Nat.add_zero]
  match a with
  | ⟨0, _⟩ =>
    rw [GatherDims.start_batching _ _ _ _ List.mem_cons_self, Nat.zero_add]
    rfl
  | ⟨1, _⟩ =>
    rw [GatherDims.start_batching _ _ _ _ (List.mem_cons_of_mem _ List.mem_cons_self), Nat.zero_add]
    rfl
  | ⟨2, _⟩ =>
    rw [GatherDims.batchCoord_eq_zero _ _ _ (fun h => by simp at h), Nat.add_zero]
    have hs : (lookup wf).siIdx (ix3 v k b) ⟨0, Nat.one_pos⟩ = ix4 v k b 0 := funext fun c => Fin.ext (by
      match c with
      | ⟨0, _⟩ => rfl
      | ⟨1, _⟩ => rfl
      | ⟨2, _⟩ => rfl
      | ⟨3, _⟩ => rfl)
    show min (J ((lookup wf).siIdx (ix3 v k b) ⟨0, Nat.one_pos⟩)).toInt.toNat 255 = n.val
    rw [hs, hJ, word_nat]

/-- The lookup of indices that all lie in the table. -/
theorem take_real (wf : GatherDims.WF Table Cube1 Cube [] [2] [0, 1] [2] [0, 1] 3 ![1, 1, 1]) (T : FVec Ideal Table .f32) (J : IVec Cube1 32)
    (t : Fin 64 → Fin 32 → Fin 256 → ℝ) (n : Fin 64 → Fin 32 → Fin 512 → Fin 256) (hT : ∀ v k c, T (ix3 v k c) = (t v k c : EReal))
    (hJ : ∀ v k b q, J (ix4 v k b q) = BitVec.ofNat 32 (n v k b).val)
    (b1 : Unit0.BroadcastsInDim Cube1 ![]) (b2 : Shape.BroadcastsInDim ⟨4, ![1, 1, 1, 1]⟩ Cube1 ![0, 1, 2, 3])
    (b3 : Shape.BroadcastsInDim ⟨1, ![1]⟩ ⟨4, ![1, 1, 1, 1]⟩ ![3]) (hr : Shape.ReducesTo Cube1 [3] Cube) (hu : 0 < Unit0.numel)
    (Z : FVec Ideal Cube .f32) (v : Fin 64) (k : Fin 32) (b : Fin 512) :
    select (Host.reduce IntOp.andi (andi (cmpi .sge J (broadcastInDim Cube1 ![] b1 (constantI Unit0 32 0#32)))
        (cmpi .sle J (broadcastInDim Cube1 ![0, 1, 2, 3] b2 (broadcastInDim ⟨4, ![1, 1, 1, 1]⟩ ![3] b3 (constantI ⟨1, ![1]⟩ 32 255#32)))))
      (constantI Unit0 1 1#1) hr hu) (Host.gather (lookup wf) T J) Z (ix3 v k b) = ((t v k (n v k b) : ℝ) : EReal) := by
  have hall : ∀ v k b q, andi (cmpi .sge J (broadcastInDim Cube1 ![] b1 (constantI Unit0 32 0#32)))
      (cmpi .sle J (broadcastInDim Cube1 ![0, 1, 2, 3] b2 (broadcastInDim ⟨4, ![1, 1, 1, 1]⟩ ![3] b3 (constantI ⟨1, ![1]⟩ 32 255#32))))
      (ix4 v k b q) = 1#1 := fun v k b q => by
    show IntOp.andi (IntOp.cmpi .sge (J (ix4 v k b q)) 0#32) (IntOp.cmpi .sle (J (ix4 v k b q)) 255#32) = 1#1
    rw [hJ, word_sge, word_sle]
    rfl
  rw [select_apply, Host.reduce_andi_one _ _ _ _ _ rfl (fun i => (congrArg _ (eq_ix4 i)).trans (hall _ _ _ _)), select_one,
    lookup_at wf T J v k b (n v k b) (hJ v k b 0), hT]

/-! ## The root -/

section Root
variable (W : FVec Ideal ⟨1, ![32]⟩ .f32) (w : Fin 32 → ℝ) (hW : ∀ k, W (ix1 k) = (w k : EReal))
  (b1 : Shape.BroadcastsInDim ⟨1, ![1]⟩ ⟨1, ![32]⟩ ![0]) (b2 : Unit0.BroadcastsInDim ⟨1, ![1]⟩ ![])
  (hr : Shape.ReducesTo ⟨1, ![32]⟩ [0] Unit0) (hu : 0 < Unit0.numel)

theorem spread_one {α : Type} (x : Shape.Idx ⟨1, ![1]⟩ → α) (k : Fin 32) : broadcastInDim ⟨1, ![32]⟩ ![0] b1 x (ix1 k) = x (ix1 0) :=
  broadcastInDim_apply _ _ _ _ _ (by
    intro a
    match a with
    | ⟨0, _⟩ => rfl)

theorem sum_vector {n : Nat} (f : Shape.Idx ⟨1, ![n]⟩ → EReal) : ∑ i, f i = ∑ k : Fin n, f (ix1 k) :=
  (Fintype.sum_equiv ⟨ix1, fun i => i 0, fun _ => rfl, fun i => (eq_ix1 i).symm⟩ (fun k => f (ix1 k)) f fun _ => rfl).symm

include hW in
/-- The root's scores less one number. -/
theorem rootShift_real : ∃ μ : ℝ, ∀ k, subf W (broadcastInDim ⟨1, ![32]⟩ ![0] b1 (broadcastInDim ⟨1, ![1]⟩ ![] b2
    (maximumf (constant Unit0 .f32 0xFF800000#32) (Host.reduce FloatOps.maximumf W (constant Unit0 .f32 0xFF800000#32) hr hu)))) (ix1 k)
      = ((w k - μ : ℝ) : EReal) := by
  haveI : Nonempty (Shape.Idx ⟨1, ![32]⟩) := ⟨ix1 0⟩
  have real : ∀ i, ∃ u : ℝ, W i = (u : EReal) := fun i => ⟨w (i 0), (congrArg W (eq_ix1 i)).trans (hW _)⟩
  choose u hu' using real
  obtain ⟨i, hi⟩ := fold_max_coe u
  refine ⟨u i, fun k => ?_⟩
  have hm : Host.reduce FloatOps.maximumf W (constant Unit0 .f32 0xFF800000#32) hr hu ix0 = (u i : EReal) := by
    rw [Host.reduce_eq_fold, Finset.filter_true_of_mem (fun i _ => funext fun a => a.elim0), least_at, funext hu']
    exact hi
  rw [subf_apply, spread_one, broadcastInDim_scalar_apply, maximumf_apply, least_at, hm, hW, bot_sup_eq, ← EReal.coe_sub]

end Root

/-- The logarithm of the softmax of the root's scores. -/
theorem rootSoft_real (D : FVec Ideal ⟨1, ![32]⟩ .f32) (w : Fin 32 → ℝ) (μ : ℝ) (hD : ∀ k, D (ix1 k) = ((w k - μ : ℝ) : EReal))
    (b1 : Shape.BroadcastsInDim ⟨1, ![1]⟩ ⟨1, ![32]⟩ ![0]) (b2 : Unit0.BroadcastsInDim ⟨1, ![1]⟩ ![])
    (hr : Shape.ReducesTo ⟨1, ![32]⟩ [0] Unit0) (hu : 0 < Unit0.numel) (k : Fin 32) :
    subf D (broadcastInDim ⟨1, ![32]⟩ ![0] b1 (Host.log (broadcastInDim ⟨1, ![1]⟩ ![] b2
      (Host.reduceAdd (Host.exp D) (constant Unit0 .f32 0x00000000#32) hr hu)))) (ix1 k) = ((Real.log (soft w k) : ℝ) : EReal) := by
  have hs : Host.reduceAdd (Host.exp D) (constant Unit0 .f32 0x00000000#32) hr hu ix0 = ((∑ k, Real.exp (w k - μ) : ℝ) : EReal) := by
    rw [hostReduceAdd_apply, Ideal.hostReduceAdd_total hr (fun a => a.elim0), zero_at, zero_add, coe_sum]
    rw [sum_vector]
    exact Finset.sum_congr rfl fun k _ => by rw [exp_at, hD, Ideal.exp_coe]
  rw [subf_apply, spread_one, log_at, broadcastInDim_scalar_apply, hs, hD, log_coe_pos (total_pos fun k => w k - μ), ← EReal.coe_sub,
    log_soft_shift]

/-- The root's log weights added to the last level's log densities. -/
theorem rootTerm_real (P : FVec Ideal ⟨1, ![32]⟩ .f32) (E : FVec Ideal ⟨3, ![1, 32, 512]⟩ .f32) (w : Fin 32 → ℝ) (X : Fin 1 → Fin 32 → Fin 512 → ℝ)
    (hX : ∀ r k b, 0 < X r k b) (hP : ∀ k, P (ix1 k) = ((Real.log (soft w k) : ℝ) : EReal))
    (hE : ∀ r k b, E (ix3 r k b) = ((Real.log (X r k b) : ℝ) : EReal))
    (b1 : Shape.BroadcastsInDim ⟨2, ![32, 1]⟩ ⟨2, ![32, 512]⟩ ![0, 1]) (b2 : Shape.BroadcastsInDim ⟨1, ![32]⟩ ⟨2, ![32, 1]⟩ ![0])
    (sc : Shape.ShapeCasts ⟨3, ![1, 32, 512]⟩ ⟨2, ![32, 512]⟩) (k : Fin 32) (b : Fin 512) :
    addf (broadcastInDim ⟨2, ![32, 512]⟩ ![0, 1] b1 (broadcastInDim ⟨2, ![32, 1]⟩ ![0] b2 P)) (shapeCast ⟨2, ![32, 512]⟩ E sc) (ix2 k b)
      = ((Real.log (soft w k * X 0 k b) : ℝ) : EReal) := by
  rw [addf_apply, broadcastInDim_apply _ _ _ _ (ix2 k 0) (by
      intro a
      match a with
      | ⟨0, _⟩ => rfl
      | ⟨1, _⟩ => rfl),
    broadcastInDim_apply _ _ _ _ (ix1 k) (by
      intro a
      match a with
      | ⟨0, _⟩ => rfl),
    shapeCast_apply _ _ _ (ix3 0 k b) (by
      rw [Shape.rowMajor_val_three, Shape.rowMajor_val_two]
      show (0 * 32 + k.val) * 512 + b.val = k.val * 512 + b.val
      omega), hP, hE, ← EReal.coe_add, Real.log_mul (soft_pos w k).ne' (hX 0 k b).ne']

/-- The log likelihood: the largest term goes out of the sum and comes back after the logarithm. -/
theorem answer_real (T : FVec Ideal ⟨2, ![32, 512]⟩ .f32) (w : Fin 32 → ℝ) (X : Fin 32 → Fin 512 → ℝ) (hX : ∀ k b, 0 < X k b)
    (hT : ∀ k b, T (ix2 k b) = ((Real.log (soft w k * X k b) : ℝ) : EReal))
    (b1 : Shape.BroadcastsInDim ⟨1, ![512]⟩ ⟨2, ![512, 1]⟩ ![0]) (b2 : Shape.BroadcastsInDim ⟨2, ![1, 512]⟩ ⟨2, ![32, 512]⟩ ![0, 1])
    (b3 : Shape.BroadcastsInDim ⟨1, ![512]⟩ ⟨2, ![1, 512]⟩ ![1]) (hr : Shape.ReducesTo ⟨2, ![32, 512]⟩ [0] ⟨1, ![512]⟩) (hu : 0 < Unit0.numel)
    (m : FVec Ideal ⟨1, ![512]⟩ .f32) (hm : m = Host.reduce FloatOps.maximumf T (constant Unit0 .f32 0xFF800000#32) hr hu) (b : Fin 512) :
    broadcastInDim ⟨2, ![512, 1]⟩ ![0] b1 (addf (Host.log (Host.reduceAdd (Host.exp (subf T (broadcastInDim ⟨2, ![32, 512]⟩ ![0, 1] b2
      (broadcastInDim ⟨2, ![1, 512]⟩ ![1] b3 m)))) (constant Unit0 .f32 0x00000000#32) hr hu)) m) (ix2 b 0)
      = ((answer w (fun k => X k b) : ℝ) : EReal) := by
  have h : Shape.Reduces ⟨2, ![32, 512]⟩ [0] ⟨1, ![512]⟩ := ⟨hr.1, Nat.one_pos, hr.2⟩
  have hl : ∀ k : Fin 32, h.lift (ix1 b) k = ix2 k b := fun k => funext fun a => Fin.ext (by
    match a with
    | ⟨0, _⟩ => rfl
    | ⟨1, _⟩ => rfl)
  obtain ⟨c, hc⟩ := fold_max_coe fun k => Real.log (soft w k * X k b)
  have hmb : m (ix1 b) = ((Real.log (soft w c * X c b) : ℝ) : EReal) := by
    have e : T ∘ h.lift (ix1 b) = fun k => ((Real.log (soft w k * X k b) : ℝ) : EReal) := funext fun k => (congrArg T (hl k)).trans (hT k b)
    rw [hm, Host.reduce_eq_fold_single _ _ _ hr h, e, least_at]
    exact hc
  generalize Real.log (soft w c * X c b) = μ at hmb
  have hp : ∀ k, 0 < soft w k * X k b := fun k => mul_pos (soft_pos w k) (hX k b)
  have hs : ∑ k, Real.exp (Real.log (soft w k * X k b) - μ) = (∑ k, soft w k * X k b) * Real.exp (-μ) := by
    rw [Finset.sum_mul]
    exact Finset.sum_congr rfl fun k _ => by rw [sub_eq_add_neg, Real.exp_add, Real.exp_log (hp k)]
  have hpos : 0 < ∑ k, soft w k * X k b := Finset.sum_pos (fun k _ => hp k) Finset.univ_nonempty
  have hsum : Host.reduceAdd (Host.exp (subf T (broadcastInDim ⟨2, ![32, 512]⟩ ![0, 1] b2 (broadcastInDim ⟨2, ![1, 512]⟩ ![1] b3 m))))
      (constant Unit0 .f32 0x00000000#32) hr hu (ix1 b) = ((∑ k, Real.exp (Real.log (soft w k * X k b) - μ) : ℝ) : EReal) := by
    rw [hostReduceAdd_apply, Ideal.hostReduceAdd_single hr h, zero_at, zero_add, coe_sum]
    refine Finset.sum_congr rfl fun (k : Fin 32) _ => ?_
    refine (congrArg (Host.exp _) (hl k)).trans ?_
    rw [exp_at, subf_apply, hT, broadcastInDim_apply _ _ _ _ (ix2 0 b) (by
        intro a
        match a with
        | ⟨0, _⟩ => rfl
        | ⟨1, _⟩ => rfl),
      broadcastInDim_apply _ _ _ _ (ix1 b) (by
        intro a
        match a with
        | ⟨0, _⟩ => rfl), hmb, ← EReal.coe_sub, Ideal.exp_coe]
  rw [broadcastInDim_apply _ _ _ _ (ix1 b) (by
      intro a
      match a with
      | ⟨0, _⟩ => rfl), addf_apply, log_at, hsum, hs, log_coe_pos (mul_pos hpos (Real.exp_pos _)), hmb, ← EReal.coe_add,
    Real.log_mul hpos.ne' (Real.exp_pos _).ne', Real.log_exp, neg_add_cancel_right, answer]

end Cert.Circuit.Blocks
-- ==== Proof.RValue.lean ====
/- The reference's result on arrays of real numbers and categories: the circuit's log likelihoods. -/
module

public import proofs.«01_k».proof.Proof.RRoot
public import proofs.«01_k».proof.Proof.KValue
public import proofs.«01_k».proof.Proof.Gen.ReferenceIdeal.Run

@[expose] public section

noncomputable section

namespace Cert.ReferenceIdeal.Levels

open Idealize.ShloMosaic Idealize.ShloMosaic.ValueIdx Idealize.ShloMosaic.TcCoe
open Cert.ReferenceIdeal Cert.ReferenceIdeal.Gen Cert.ReferenceIdeal.Value Cert.Circuit Cert.Circuit.Blocks

/-- An array holds the logarithms of positive numbers. -/
def Logs {R : Nat} (v : FVec Ideal ⟨3, ![R, 32, 512]⟩ .f32) (X : Fin R → Fin 32 → Fin 512 → ℝ) : Prop :=
  (∀ r k b, 0 < X r k b) ∧ ∀ r k b, v (ix3 r k b) = ((Real.log (X r k b) : ℝ) : EReal)

/-- One level, from the array of the level below and the level's weights. -/
theorem logs_up {R N : Nat} (hRN : 2 * R = N) (v : FVec Ideal ⟨3, ![N, 32, 512]⟩ .f32) (X : Fin N → Fin 32 → Fin 512 → ℝ) (hv : Logs v X)
    (W : FVec Ideal ⟨3, ![R, 32, 1024]⟩ .f32) (w : Fin R → Fin 32 → Fin 1024 → ℝ) (hW : ∀ r k c, W (ix3 r k c) = (w r k c : EReal))
    (wf : DotDims.WF ⟨3, ![R, 32, 1024]⟩ ⟨3, ![R, 1024, 512]⟩ ⟨3, ![R, 32, 512]⟩ [2] [1] [1] [2] [0] [0])
    {e : FVec Ideal ⟨3, ![R, 1024, 512]⟩ .f32} {m : FVec Ideal ⟨3, ![R, 1, 512]⟩ .f32} {E : FVec Ideal ⟨3, ![R, 32, 1024]⟩ .f32}
    {s0 : Shape.SlicesBy ⟨3, ![N, 32, 512]⟩ ![0, 0, 0] ![2, 1, 1] ⟨3, ![R, 32, 512]⟩}
    {s1 : Shape.SlicesBy ⟨3, ![N, 32, 512]⟩ ![1, 0, 0] ![2, 1, 1] ⟨3, ![R, 32, 512]⟩}
    {a1 : Shape.BroadcastsInDim ⟨4, ![R, 32, 1, 512]⟩ ⟨4, ![R, 32, 32, 512]⟩ ![0, 1, 2, 3]}
    {a2 : Shape.BroadcastsInDim ⟨3, ![R, 32, 512]⟩ ⟨4, ![R, 32, 1, 512]⟩ ![0, 1, 3]}
    {c1 : Shape.BroadcastsInDim ⟨4, ![R, 1, 32, 512]⟩ ⟨4, ![R, 32, 32, 512]⟩ ![0, 1, 2, 3]}
    {c2 : Shape.BroadcastsInDim ⟨3, ![R, 32, 512]⟩ ⟨4, ![R, 1, 32, 512]⟩ ![0, 2, 3]}
    {sc : Shape.ShapeCasts ⟨4, ![R, 32, 32, 512]⟩ ⟨3, ![R, 1024, 512]⟩}
    (he : e = shapeCast ⟨3, ![R, 1024, 512]⟩ (addf
        (broadcastInDim ⟨4, ![R, 32, 32, 512]⟩ ![0, 1, 2, 3] a1 (broadcastInDim ⟨4, ![R, 32, 1, 512]⟩ ![0, 1, 3] a2
          (Host.slice ⟨3, ![R, 32, 512]⟩ ![0, 0, 0] ![2, 1, 1] v s0)))
        (broadcastInDim ⟨4, ![R, 32, 32, 512]⟩ ![0, 1, 2, 3] c1 (broadcastInDim ⟨4, ![R, 1, 32, 512]⟩ ![0, 2, 3] c2
          (Host.slice ⟨3, ![R, 32, 512]⟩ ![1, 0, 0] ![2, 1, 1] v s1)))) sc)
    {p1 : Shape.BroadcastsInDim ⟨2, ![R, 512]⟩ ⟨3, ![R, 1, 512]⟩ ![0, 2]}
    {pr : Shape.ReducesTo ⟨3, ![R, 1024, 512]⟩ [1] ⟨2, ![R, 512]⟩} {hu : 0 < Unit0.numel}
    (hm : m = broadcastInDim ⟨3, ![R, 1, 512]⟩ ![0, 2] p1 (Host.reduce FloatOps.maximumf e (constant Unit0 .f32 0xFF800000#32) pr hu))
    {q1 : Shape.BroadcastsInDim ⟨3, ![R, 32, 1]⟩ ⟨3, ![R, 32, 1024]⟩ ![0, 1, 2]} {q2 : Shape.BroadcastsInDim ⟨2, ![R, 32]⟩ ⟨3, ![R, 32, 1]⟩ ![0, 1]}
    {q3 : Unit0.BroadcastsInDim ⟨2, ![R, 32]⟩ ![]} {qr : Shape.ReducesTo ⟨3, ![R, 32, 1024]⟩ [2] ⟨2, ![R, 32]⟩}
    (hE : E = Host.exp (subf W (broadcastInDim ⟨3, ![R, 32, 1024]⟩ ![0, 1, 2] q1 (broadcastInDim ⟨3, ![R, 32, 1]⟩ ![0, 1] q2
      (maximumf (broadcastInDim ⟨2, ![R, 32]⟩ ![] q3 (constant Unit0 .f32 0xFF800000#32))
        (Host.reduce FloatOps.maximumf W (constant Unit0 .f32 0xFF800000#32) qr hu))))))
    {b1 : Shape.BroadcastsInDim ⟨3, ![R, 1, 512]⟩ ⟨3, ![R, 1024, 512]⟩ ![0, 1, 2]}
    {b2 : Shape.BroadcastsInDim ⟨3, ![R, 1, 512]⟩ ⟨3, ![R, 32, 512]⟩ ![0, 1, 2]} :
    Logs (addf (Host.log (Host.dotGeneral (dims wf) none (Host.divf E (broadcastInDim ⟨3, ![R, 32, 1024]⟩ ![0, 1, 2] q1
        (broadcastInDim ⟨3, ![R, 32, 1]⟩ ![0, 1] q2 (Host.reduceAdd E (constant Unit0 .f32 0x00000000#32) qr hu))))
        (Host.exp (subf e (broadcastInDim ⟨3, ![R, 1024, 512]⟩ ![0, 1, 2] b1 m)))))
        (broadcastInDim ⟨3, ![R, 32, 512]⟩ ![0, 1, 2] b2 m)) (level hRN w X) := by
  obtain ⟨μ, hμ⟩ := shift_real W w hW q1 q2 q3 qr hu
  have hpair := pairs_real hRN v (fun r k b => Real.log (X r k b)) hv.2 s0 s1 a1 a2 c1 c2 sc
  rw [← he] at hpair
  obtain ⟨M, hM⟩ := peak_real e _ hpair p1 pr hu
  rw [← hm] at hM
  subst hE
  exact ⟨level_pos hRN w X hv.1, level_real hRN wf _ e m w X hv.1 M (soft_real _ w μ hμ q1 q2 qr hu) hpair hM b1 b2⟩

variable (V : Valuation τ sig (Elt Ideal)) (t : Fin 64 → Fin 32 → Fin 256 → ℝ) (x : Fin 512 → Fin 64 → Fin 256)
  (w1 : Fin 32 → Fin 32 → Fin 1024 → ℝ) (w2 : Fin 16 → Fin 32 → Fin 1024 → ℝ) (w3 : Fin 8 → Fin 32 → Fin 1024 → ℝ)
  (w4 : Fin 4 → Fin 32 → Fin 1024 → ℝ) (w5 : Fin 2 → Fin 32 → Fin 1024 → ℝ) (w6 : Fin 1 → Fin 32 → Fin 1024 → ℝ) (wr : Fin 32 → ℝ)
  (hX : ∀ s v, (V (Proc.devRef .tc main_arg0) : IVec S512x64 32) (ix2 s v) = BitVec.ofNat 32 (x s v).val)
  (hT : ∀ v k c, (V (Proc.devRef .tc main_arg1) : FVec Ideal S64x32x256 .f32) (ix3 v k c) = (t v k c : EReal))
  (h1 : ∀ r k c, (V (Proc.devRef .tc main_arg2) : FVec Ideal S32x32x1024 .f32) (ix3 r k c) = (w1 r k c : EReal))
  (h2 : ∀ r k c, (V (Proc.devRef .tc main_arg3) : FVec Ideal S16x32x1024 .f32) (ix3 r k c) = (w2 r k c : EReal))
  (h3 : ∀ r k c, (V (Proc.devRef .tc main_arg4) : FVec Ideal S8x32x1024 .f32) (ix3 r k c) = (w3 r k c : EReal))
  (h4 : ∀ r k c, (V (Proc.devRef .tc main_arg5) : FVec Ideal S4x32x1024 .f32) (ix3 r k c) = (w4 r k c : EReal))
  (h5 : ∀ r k c, (V (Proc.devRef .tc main_arg6) : FVec Ideal S2x32x1024 .f32) (ix3 r k c) = (w5 r k c : EReal))
  (h6 : ∀ r k c, (V (Proc.devRef .tc main_arg7) : FVec Ideal S1x32x1024 .f32) (ix3 r k c) = (w6 r k c : EReal))
  (hr : ∀ k, (V (Proc.devRef .tc main_arg8) : FVec Ideal S32 .f32) (ix1 k) = (wr k : EReal))

include hX hT in
/-- The leaves' log probabilities. -/
theorem leaves : Logs (res_main_v4 V) (leaf t x) := by
  refine ⟨leaf_pos t x, fun v k b => ?_⟩
  obtain ⟨μ, hμ⟩ := shift_real (V (Proc.devRef .tc main_arg1) : FVec Ideal S64x32x256 .f32) t hT bcast_S64x32x1_S64x32x256_0_1_2
    bcast_S64x32_S64x32x1_0_1 bcast_S_S64x32 reducesTo_S64x32x256_S64x32_d2 h_S_
  exact take_real _ _ _ (fun v k c => Real.log (soft (t v k) c)) (fun v _ b => x b v)
    (logSoft_real (res_main_call0_v5 V) t μ hμ _ _ _ _)
    (wrap_real (res_main_v3 V) (fun v _ b => x b v) (fun v k b => (spread_real _ _ _ _ v k b).trans (hX b v)) _ _ _) _ _ _ _ _ _ v k b

include hX hT h1 in
/-- The first mixed level. -/
theorem logs1 : Logs (res_main_v32 V) (level rfl w1 (leaf t x)) := by
  have hv := leaves V t x hX hT
  generalize leaf t x = X at hv ⊢
  have up := @logs_up 32 64 rfl (res_main_v4 V) X hv _ w1 h1 dot_S32x32x1024_S32x1024x512_S32x32x512_2_1_1_2_0_0.wf (res_main_v12 V)
    (res_main_v14 V) (res_main_v21 V) slicesBy_S64x32x512_S32x32x512_0s2_0s1_0s1 slicesBy_S64x32x512_S32x32x512_1s2_0s1_0s1
    bcast_S32x32x1x512_S32x32x32x512_0_1_2_3 bcast_S32x32x512_S32x32x1x512_0_1_3 bcast_S32x1x32x512_S32x32x32x512_0_1_2_3
    bcast_S32x32x512_S32x1x32x512_0_2_3 shapeCasts_S32x32x32x512_S32x1024x512 rfl bcast_S32x512_S32x1x512_0_2
    reducesTo_S32x1024x512_S32x512_d1 h_S_
  have peak : res_main_v14 V = broadcastInDim S32x1x512 ![0, 2] bcast_S32x512_S32x1x512_0_2
    (Host.reduce FloatOps.maximumf (res_main_v12 V) (constant Unit0 .f32 0xFF800000#32) reducesTo_S32x1024x512_S32x512_d1 h_S_) := rfl
  exact @up peak bcast_S32x32x1_S32x32x1024_0_1_2 bcast_S32x32_S32x32x1_0_1 bcast_S_S32x32 reducesTo_S32x32x1024_S32x32_d2 rfl
    bcast_S32x1x512_S32x1024x512_0_1_2 bcast_S32x1x512_S32x32x512_0_1_2

include hX hT h1 h2 in
theorem logs2 : Logs (res_main_v60 V) (level rfl w2 (level rfl w1 (leaf t x))) :=
  logs_up rfl (res_main_v32 V) _ (logs1 V t x w1 hX hT h1) _ w2 h2 _ (e := res_main_v40 V) (m := res_main_v42 V) (E := res_main_v49 V) rfl rfl rfl

include hX hT h1 h2 h3 in
theorem logs3 : Logs (res_main_v88 V) (level rfl w3 (level rfl w2 (level rfl w1 (leaf t x)))) :=
  logs_up rfl (res_main_v60 V) _ (logs2 V t x w1 w2 hX hT h1 h2) _ w3 h3 _ (e := res_main_v68 V) (m := res_main_v70 V) (E := res_main_v77 V)
    rfl rfl rfl

include hX hT h1 h2 h3 h4 in
theorem logs4 : Logs (res_main_v116 V) (level rfl w4 (level rfl w3 (level rfl w2 (level rfl w1 (leaf t x))))) :=
  logs_up rfl (res_main_v88 V) _ (logs3 V t x w1 w2 w3 hX hT h1 h2 h3) _ w4 h4 _ (e := res_main_v96 V) (m := res_main_v98 V)
    (E := res_main_v105 V) rfl rfl rfl

include hX hT h1 h2 h3 h4 h5 in
theorem logs5 : Logs (res_main_v144 V) (level rfl w5 (level rfl w4 (level rfl w3 (level rfl w2 (level rfl w1 (leaf t x)))))) :=
  logs_up rfl (res_main_v116 V) _ (logs4 V t x w1 w2 w3 w4 hX hT h1 h2 h3 h4) _ w5 h5 _ (e := res_main_v124 V) (m := res_main_v126 V)
    (E := res_main_v133 V) rfl rfl rfl

include hX hT h1 h2 h3 h4 h5 h6 hr in
/-- The root's terms: a log weight and the top region's log density. -/
theorem terms (k : Fin 32) (b : Fin 512) : (res_main_v177 V : FVec Ideal S32x512 .f32) (ix2 k b)
    = ((Real.log (soft wr k * level rfl w6 (level rfl w5 (level rfl w4 (level rfl w3 (level rfl w2 (level rfl w1 (leaf t x)))))) 0 k b) : ℝ) : EReal) := by
  obtain ⟨μ, hμ⟩ := rootShift_real (V (Proc.devRef .tc main_arg8) : FVec Ideal S32 .f32) wr hr bcast_S1_S32_0 bcast_S_S1 reducesTo_S32_S_d0 h_S_
  have top := logs_up rfl (res_main_v144 V) _ (logs5 V t x w1 w2 w3 w4 w5 hX hT h1 h2 h3 h4 h5) _ w6 h6
    dot_S1x32x1024_S1x1024x512_S1x32x512_2_1_1_2_0_0.wf (e := res_main_v152 V) (m := res_main_v154 V) (E := res_main_v161 V) rfl rfl rfl
    (b1 := bcast_S1x1x512_S1x1024x512_0_1_2) (b2 := bcast_S1x1x512_S1x32x512_0_1_2)
  exact rootTerm_real _ _ wr _ top.1 (rootSoft_real (res_main_call2_v4 V) wr μ hμ _ _ _ _) top.2 _ _ _ k b

include hX hT h1 h2 h3 h4 h5 h6 hr in
/-- The reference's result, entry by entry. -/
theorem result_real (s : Fin 512) :
    (broadcastInDim S512x1 ![0] bcast_S512_S512x1_0 (addf (Host.log (Host.reduceAdd (Host.exp (subf (res_main_v177 V)
      (broadcastInDim S32x512 ![0, 1] bcast_S1x512_S32x512_0_1 (broadcastInDim S1x512 ![1] bcast_S512_S1x512_1 (res_main_v178 V)))))
      (constant S_ .f32 0x00000000#32) reducesTo_S32x512_S512_d0 h_S_)) (res_main_v178 V)) : FVec Ideal S512x1 .f32) (ix2 s 0)
      = ((logLik t x w1 w2 w3 w4 w5 w6 wr s : ℝ) : EReal) :=
  answer_real (res_main_v177 V) wr _ (fun k b => level_pos rfl w6 _ (logs5 V t x w1 w2 w3 w4 w5 hX hT h1 h2 h3 h4 h5).1 0 k b)
    (terms V t x w1 w2 w3 w4 w5 w6 wr hX hT h1 h2 h3 h4 h5 h6 hr) _ _ _ _ _ (res_main_v178 V) rfl s

end Cert.ReferenceIdeal.Levels
-- ==== Proof.Pre.lean ====
/- What the precondition says of the arguments: the floats are real numbers and the inputs are categories. -/
module

public import proofs.«01_k».proof.Proof.Maths
public import proofs.«01_k».proof.Proof.Gen.Pre_ordinary
public import Idealize.ShloMosaic.Lib.ReduceAll

@[expose] public section

noncomputable section

namespace Cert.Ordinary

open Idealize.ShloMosaic Idealize.ShloMosaic.ValueIdx
open Cert.Pre_ordinary Cert.Pre_ordinary.Gen

theorem top_f32 : Ideal.ofBits .f32 0x7F800000#32 = ⊤ := by simp [Ideal.ofBits, Ideal.ieee]

instance : Subsingleton (Shape.Idx S_) := ⟨fun _ _ => funext fun k => k.elim0⟩

/-- An array all of whose absolute values lie below infinity is an array of real numbers. -/
theorem reals_of {s : Shape} {axes : List (Fin s.rank)} (x : FVec Ideal s .f32) (b : S_.BroadcastsInDim s ![]) (h : s.ReducesTo axes S_)
    (hu : 0 < S_.numel) (j : Shape.Idx S_)
    (e : Host.reduce IntOp.andi (cmpf .olt (Host.absf x) (broadcastInDim s ![] b (constant S_ .f32 0x7F800000#32))) (constantI S_ 1 1#1) h hu j
      = 1#1) : ∃ r : s.Idx → ℝ, ∀ i, x i = ((r i : ℝ) : EReal) := by
  refine ⟨fun i => (x i : EReal).toReal, fun i => ?_⟩
  have hi := Host.reduce_andi_all _ _ h hu j e i
  replace hi : BitVec.ofBool (decide (max (x i : EReal) (-(x i : EReal)) < Ideal.ofBits .f32 0x7F800000#32)) = 1#1 := hi
  rw [top_f32] at hi
  have hlt : max (x i : EReal) (-(x i : EReal)) < ⊤ := by
    by_contra hn
    rw [decide_eq_false hn] at hi
    exact absurd hi (by decide)
  rw [max_lt_iff] at hlt
  exact (EReal.coe_toReal hlt.1.ne fun hb => by rw [hb] at hlt; exact absurd hlt.2 (by simp)).symm

/-- Words between 0 and 255 are categories. -/
theorem categories_of {s : Shape} {axes : List (Fin s.rank)} (x : IVec s 32) (b : S_.BroadcastsInDim s ![]) (h : s.ReducesTo axes S_)
    (hu : 0 < S_.numel) (j : Shape.Idx S_)
    (e : Host.reduce IntOp.andi (andi (cmpi .sge x (broadcastInDim s ![] b (constantI S_ 32 0#32)))
      (cmpi .slt x (broadcastInDim s ![] b (constantI S_ 32 256#32)))) (constantI S_ 1 1#1) h hu j = 1#1) :
    ∃ n : s.Idx → Fin 256, ∀ i, x i = BitVec.ofNat 32 (n i).val := by
  have key : ∀ i, ∃ n : Fin 256, x i = BitVec.ofNat 32 n.val := fun i => by
    have hi := Host.reduce_andi_all _ _ h hu j e i
    obtain ⟨h0, h1⟩ := IntOp.andi_eq_one.1 (show IntOp.andi (IntOp.cmpi .sge (x i) 0#32) (IntOp.cmpi .slt (x i) 256#32) = 1#1 from hi)
    rw [IntOp.cmpi_sge] at h0
    rw [IntOp.cmpi_slt] at h1
    generalize x i = w at h0 h1
    have hw := w.isLt
    rw [show (0#32 : BitVec 32).toInt = 0 by decide] at h0
    rw [show (256#32 : BitVec 32).toInt = 256 by decide] at h1
    rw [BitVec.toInt_eq_toNat_cond] at h0 h1
    refine ⟨⟨w.toNat, by split at h1 <;> omega⟩, ?_⟩
    exact (BitVec.ofNat_toNat 32 w ▸ (BitVec.setWidth_eq w).symm)
  choose n hn using key
  exact ⟨n, hn⟩

/-- The precondition, as reals and categories behind the arguments. -/
theorem arguments (X : IVec S512x64 32) (T : FVec Ideal S64x32x256 .f32) (W1 : FVec Ideal S32x32x1024 .f32)
    (W2 : FVec Ideal S16x32x1024 .f32) (W3 : FVec Ideal S8x32x1024 .f32) (W4 : FVec Ideal S4x32x1024 .f32) (W5 : FVec Ideal S2x32x1024 .f32)
    (W6 : FVec Ideal S1x32x1024 .f32) (WR : FVec Ideal S32 .f32) (h : fn X T W1 W2 W3 W4 W5 W6 WR = fun _ => 1#1) :
    ∃ (x : Fin 512 → Fin 64 → Fin 256) (t : Fin 64 → Fin 32 → Fin 256 → ℝ) (w1 : Fin 32 → Fin 32 → Fin 1024 → ℝ)
      (w2 : Fin 16 → Fin 32 → Fin 1024 → ℝ) (w3 : Fin 8 → Fin 32 → Fin 1024 → ℝ) (w4 : Fin 4 → Fin 32 → Fin 1024 → ℝ)
      (w5 : Fin 2 → Fin 32 → Fin 1024 → ℝ) (w6 : Fin 1 → Fin 32 → Fin 1024 → ℝ) (wr : Fin 32 → ℝ),
      (∀ s v, X (ix2 s v) = BitVec.ofNat 32 (x s v).val) ∧ (∀ v k c, T (ix3 v k c) = (t v k c : EReal))
      ∧ (∀ r k c, W1 (ix3 r k c) = (w1 r k c : EReal)) ∧ (∀ r k c, W2 (ix3 r k c) = (w2 r k c : EReal))
      ∧ (∀ r k c, W3 (ix3 r k c) = (w3 r k c : EReal)) ∧ (∀ r k c, W4 (ix3 r k c) = (w4 r k c : EReal))
      ∧ (∀ r k c, W5 (ix3 r k c) = (w5 r k c : EReal)) ∧ (∀ r k c, W6 (ix3 r k c) = (w6 r k c : EReal))
      ∧ ∀ k, WR (ix1 k) = (wr k : EReal) := by
  have h0 := congrFun h (Shape.Idx.first h_S_)
  obtain ⟨h0, hx⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h1, h8⟩ := IntOp.andi_eq_one.1 h0
  obtain ⟨x, hx⟩ := categories_of X _ _ _ _ hx
  obtain ⟨t, h1⟩ := reals_of T _ _ _ _ h1
  obtain ⟨wr, h8⟩ := reals_of WR _ _ _ _ h8
  obtain ⟨w1, h2⟩ := reals_of W1 _ _ _ _ h2
  obtain ⟨w2, h3⟩ := reals_of W2 _ _ _ _ h3
  obtain ⟨w3, h4⟩ := reals_of W3 _ _ _ _ h4
  obtain ⟨w4, h5⟩ := reals_of W4 _ _ _ _ h5
  obtain ⟨w5, h6⟩ := reals_of W5 _ _ _ _ h6
  obtain ⟨w6, h7⟩ := reals_of W6 _ _ _ _ h7
  exact ⟨fun s v => x (ix2 s v), fun v k c => t (ix3 v k c), fun r k c => w1 (ix3 r k c), fun r k c => w2 (ix3 r k c),
    fun r k c => w3 (ix3 r k c), fun r k c => w4 (ix3 r k c), fun r k c => w5 (ix3 r k c), fun r k c => w6 (ix3 r k c), fun k => wr (ix1 k),
    fun _ _ => hx _, fun _ _ _ => h1 _, fun _ _ _ => h2 _, fun _ _ _ => h3 _, fun _ _ _ => h4 _, fun _ _ _ => h5 _, fun _ _ _ => h6 _,
    fun _ _ _ => h7 _, fun _ => h8 _⟩

end Cert.Ordinary
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ordinary
public import proofs.«01_k».proof.Proof.KResult
public import proofs.«01_k».proof.Proof.RValue
public import proofs.«01_k».proof.Proof.Pre

@[expose] public section

noncomputable section

namespace Cert.Proof

open Idealize.ShloMosaic Idealize.ShloMosaic.ValueIdx Idealize.SL.Sem

theorem frame_p : Cert.quiescent_Kernel := fun m ρ _ => Cert.Kernel.Gen.frame m ρ

theorem frame_pi : Cert.quiescent_KernelIdeal := fun m ρ _ => Cert.KernelIdeal.Gen.frame m ρ

/-- The reference declares no semaphore, so its counters are zero throughout. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- On ordinary arguments both runs end with the circuit's log likelihoods. -/
theorem algebraic : Cert.algebraic_KernelIdeal_ReferenceIdeal_pre_ordinary := by
  intro m ρ m' ρ' hpre hargs
  refine ⟨fun c => Cert.KernelIdeal.Tree.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun _ h c => ⟨h.1 c, h.2 c⟩)
      (θ_run_and (Cert.KernelIdeal.Tree.run (F := Ideal) m ρ) (Cert.KernelIdeal.Gen.unchanged (F := Ideal) m ρ))
  · refine (θ_run Cert.ReferenceIdeal.defs _ _).mono (fun _ h c => ⟨(h c).1.trans ?_, (h c).2⟩)
      (Cert.ReferenceIdeal.Value.run (F := Ideal) m' ρ')
    obtain ⟨x, t, w1, w2, w3, w4, w5, w6, wr, hX, hT, h1, h2, h3, h4, h5, h6, hr⟩ := Cert.Ordinary.arguments _ _ _ _ _ _ _ _ _ (hpre c)
    obtain ⟨a0, a1, a2, a3, a4, a5, a6, a7, a8⟩ := hargs c
    funext j
    obtain ⟨s, rfl⟩ : ∃ s : Fin 512, j = ix2 s 0 := ⟨j 0, (eq_ix2 j).trans (congrArg (ix2 (j 0)) (Subsingleton.elim (α := Fin 1) _ _))⟩
    refine (Cert.ReferenceIdeal.Levels.result_real (StableHlo.launchContents m' c) t x w1 w2 w3 w4 w5 w6 wr
      (fun s v => (congrFun a0 (ix2 s v)).trans (hX s v)) (fun v k b => (congrFun a1 (ix3 v k b)).trans (hT v k b))
      (fun r k b => (congrFun a2 (ix3 r k b)).trans (h1 r k b)) (fun r k b => (congrFun a3 (ix3 r k b)).trans (h2 r k b))
      (fun r k b => (congrFun a4 (ix3 r k b)).trans (h3 r k b)) (fun r k b => (congrFun a5 (ix3 r k b)).trans (h4 r k b))
      (fun r k b => (congrFun a6 (ix3 r k b)).trans (h5 r k b)) (fun r k b => (congrFun a7 (ix3 r k b)).trans (h6 r k b))
      (fun k => (congrFun a8 (ix1 k)).trans (hr k)) s).trans ?_
    exact (Cert.KernelIdeal.Tree.result_real _ _ _ _ _ _ _ _ _ t x w1 w2 w3 w4 w5 w6 wr hX hT h1 h2 h3 h4 h5 h6 hr s).symm

theorem claim : Cert.Claim := ⟨Cert.Kernel.Gen.facts, Cert.KernelIdeal.Gen.facts, Cert.ReferenceIdeal.Gen.facts, Cert.Pre_ordinary.Gen.facts,
  frame_p, frame_pi, fun m ρ _ => frame_pi m ρ trivial, frame_ri, fun m ρ _ => frame_ri m ρ trivial, trivial, algebraic⟩

end Cert.Proof

end
